-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S16384x1024 : Shape := ⟨2, ![16384, 1024]⟩
abbrev S16384 : Shape := ⟨1, ![16384]⟩
abbrev S_ : Shape := ⟨0, ![]⟩
abbrev S16383 : Shape := ⟨1, ![16383]⟩

class Facts : Prop where
  bcast_S_S16384 : S_.BroadcastsInDim S16384 (![] : Fin 0 → Fin S16384.rank)
  reducesTo_S16384_S_d0 : S16384.ReducesTo [0] S_
  h_S_ : 0 < S_.numel
  slices_S16384_S16383_0 : S16384.Slices ![0] S16383
  slices_S16384_S16383_1 : S16384.Slices ![1] S16383
  reducesTo_S16383_S_d0 : S16383.ReducesTo [0] S_

variable [Facts]

def fn {F : FTy → Type} [FloatOps F] (main_arg0 : FVec F S16384x1024 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 16#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_v7 : IVec S16383 32 := (extractStridedSlice S16383 ![0] · slices_S16384_S16383_0) main_arg1
  let main_v8 : IVec S16383 32 := (extractStridedSlice S16383 ![1] · slices_S16384_S16383_1) main_arg1
  let main_v9 : IVec S16383 1 := cmpi .sle main_v7 main_v8
  let main_c_3 : IVec S_ 1 := constantI S_ 1 1#1
  let main_v10 : IVec S_ 1 := (fun x v => Host.reduce IntOp.andi x v reducesTo_S16383_S_d0 h_S_) main_v9 main_c_3
  let main_v11 : IVec S_ 1 := andi main_v6 main_v10
  main_v11
-- ==== Kernel.lean ====
abbrev S16384x1024 : Shape := ⟨2, ![16384, 1024]⟩
abbrev S16384 : Shape := ⟨1, ![16384]⟩
abbrev S_ : Shape := ⟨0, ![]⟩
abbrev S32x1024 : Shape := ⟨2, ![32, 1024]⟩
abbrev S32768x1024 : Shape := ⟨2, ![32768, 1024]⟩
abbrev S32768 : Shape := ⟨1, ![32768]⟩
abbrev S1024 : Shape := ⟨1, ![1024]⟩
abbrev S16 : Shape := ⟨1, ![16]⟩
abbrev S1x1024 : Shape := ⟨2, ![1, 1024]⟩
abbrev S16x2048x1024 : Shape := ⟨3, ![16, 2048, 1024]⟩
abbrev S16x2048 : Shape := ⟨2, ![16, 2048]⟩

abbrev nBuf : Table → Nat
  | .hbm => 11
  | .local .scVector .vmem => 5
  | _ => 0

abbrev bufTy : (tb : Table) → Fin (nBuf tb) → BufTy
  | .hbm, ⟨0, _⟩ => ⟨S16384x1024, .f32⟩
  | .hbm, ⟨1, _⟩ => ⟨S16384, .i32⟩
  | .hbm, ⟨2, _⟩ => ⟨S_, .f32⟩
  | .hbm, ⟨3, _⟩ => ⟨S32x1024, .f32⟩
  | .hbm, ⟨4, _⟩ => ⟨S32768x1024, .f32⟩
  | .hbm, ⟨5, _⟩ => ⟨S32768, .i32⟩
  | .hbm, ⟨6, _⟩ => ⟨S16x2048x1024, .f32⟩
  | .hbm, ⟨7, _⟩ => ⟨S16x2048, .i32⟩
  | .hbm, ⟨8, _⟩ => ⟨S_, .i32⟩
  | .hbm, ⟨9, _⟩ => ⟨S16x2048, .i32⟩
  | .hbm, ⟨10, _⟩ => ⟨S16x2048, .i1⟩
  | .local .scVector .vmem, ⟨0, _⟩ => ⟨S16384, .i32⟩
  | .local .scVector .vmem, ⟨1, _⟩ => ⟨S32x1024, .f32⟩
  | .local .scVector .vmem, ⟨2, _⟩ => ⟨S32x1024, .f32⟩
  | .local .scVector .vmem, ⟨3, _⟩ => ⟨S32x1024, .f32⟩
  | .local .scVector .vmem, ⟨4, _⟩ => ⟨S1024, .i32⟩
  | _, _ => ⟨S16384x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c1024_i32_14 : BitVec 32 := 1024#32
  let v33 : BitVec 32 := Scalar.addi c0_i32_13 c1024_i32_14
  let c1_i32_15 : BitVec 32 := 1#32
  ⟨c0_i32_13, v33, c1_i32_15⟩
def k0_off1 (k0_t1 : Fin k0_t1_loop.trips) : Fin 1 → Nat :=
  let c0_i32_13 : BitVec 32 := 0#32
  let c1_i32_15 : BitVec 32 := 1#32
  let arg12 : BitVec 32 := Scf.iv c0_i32_13 c1_i32_15 k0_t1
  let c16_i32 : BitVec 32 := 16#32
  let v53 : BitVec 32 := Scalar.muli arg12 c16_i32
  let v54 : Index := Scalar.indexCast v53
  ![v54.toNat]
@[reducible] def k0_t2_loop : Scf.Loop 32 :=
  let c0_i32_21 : BitVec 32 := 0#32
  let c64_i32 : BitVec 32 := 64#32
  let v47 : BitVec 32 := Scalar.addi c0_i32_21 c64_i32
  let c1_i32_22 : BitVec 32 := 1#32
  ⟨c0_i32_21, v47, c1_i32_22⟩
def k0_off2 (k0_t2 : Fin k0_t2_loop.trips) : Fin 1 → Nat :=
  let c0_i32_21 : BitVec 32 := 0#32
  let c1_i32_22 : BitVec 32 := 1#32
  let arg12 : BitVec 32 := Scf.iv c0_i32_21 c1_i32_22 k0_t2
  let c16_i32_29 : BitVec 32 := 16#32
  let v59 : BitVec 32 := Scalar.muli arg12 c16_i32_29
  let v60 : Index := Scalar.indexCast v59
  ![v60.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_24 : BitVec 32 := 1024#32
  let v49 : BitVec 32 := Scalar.muli v1 c1024_i32_24
  ![v49.toNat]
@[reducible] def k0_t3_loop : Scf.Loop 32 :=
  let c0_i32_26 : BitVec 32 := 0#32
  let c32_i32 : BitVec 32 := 32#32
  let v51 : BitVec 32 := Scalar.addi c0_i32_26 c32_i32
  let c1_i32_27 : BitVec 32 := 1#32
  ⟨c0_i32_26, v51, c1_i32_27⟩
def k0_off4 (i : grid0.Coords) (v37 : BitVec 32) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v37 v29
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v68 : BitVec 32 := Scalar.addi v50 v53
  let c0_i32_39_r3 : BitVec 32 := 0#32
  ![v68.toNat, 0]
def k0_cond1 (i : grid0.Coords) (v37 : BitVec 32) (v40 : BitVec 32) (k0_t3 : Fin k0_t3_loop.trips) : BitVec 1 :=
  let c1024_i32_19 : BitVec 32 := 1024#32
  let c0_i32_18 : BitVec 32 := 0#32
  let v41 : BitVec 32 := Scalar.subi v40 v37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v42 : BitVec 32 := Scalar.subi v41 v29
  let v43 : BitVec 32 := Scalar.maxsi c0_i32_18 v42
  let v44 : BitVec 32 := Scalar.minsi c1024_i32_19 v43
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v56 : BitVec 32 := Scalar.subi v44 v53
  let c32_i32_31 : BitVec 32 := 32#32
  let v57 : BitVec 1 := Scalar.cmpi .sge v56 c32_i32_31
  let v58 : BitVec 32 := Scalar.extui v57
  let c0_i32_32 : BitVec 32 := 0#32
  let v59 : BitVec 1 := Scalar.cmpi .ne v58 c0_i32_32
  v59

def k0_off5 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_30 : BitVec 32 := 1024#32
  let v54 : BitVec 32 := Scalar.muli v1 c1024_i32_30
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v55 : BitVec 32 := Scalar.addi v54 v53
  let c0_i32_39_r4 : BitVec 32 := 0#32
  ![v55.toNat, 0]
def k0_off6 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_30 : BitVec 32 := 1024#32
  let v54 : BitVec 32 := Scalar.muli v1 c1024_i32_30
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v55 : BitVec 32 := Scalar.addi v54 v53
  let c0_i32_39_r5 : BitVec 32 := 0#32
  ![v55.toNat, 0]
def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_30 : BitVec 32 := 1024#32
  let v54 : BitVec 32 := Scalar.muli v1 c1024_i32_30
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v55 : BitVec 32 := Scalar.addi v54 v53
  let c0_i32_44_r6 : BitVec 32 := 0#32
  ![v55.toNat, 0]
@[reducible] def k0_t4_loop : Scf.Loop 32 :=
  let c0_i32_40 : BitVec 32 := 0#32
  let c32_i32_41 : BitVec 32 := 32#32
  let v68 : BitVec 32 := Scalar.addi c0_i32_40 c32_i32_41
  let c1_i32_42 : BitVec 32 := 1#32
  ⟨c0_i32_40, v68, c1_i32_42⟩
def k0_off8 (i : grid0.Coords) (v37 : BitVec 32) (k0_t3 : Fin k0_t3_loop.trips) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v50 : BitVec 32 := Scalar.addi v37 v29
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v73 : BitVec 32 := Scalar.addi v50 v53
  let c0_i32_40 : BitVec 32 := 0#32
  let c1_i32_42 : BitVec 32 := 1#32
  let arg14 : BitVec 32 := Scf.iv c0_i32_40 c1_i32_42 k0_t4
  let v74 : BitVec 32 := Scalar.addi v73 arg14
  let c0_i32_48_r7 : BitVec 32 := 0#32
  ![v74.toNat, 0]
def k0_cond3 (i : grid0.Coords) (v37 : BitVec 32) (v40 : BitVec 32) (k0_t3 : Fin k0_t3_loop.trips) : BitVec 1 :=
  let c1024_i32_19 : BitVec 32 := 1024#32
  let c0_i32_18 : BitVec 32 := 0#32
  let v41 : BitVec 32 := Scalar.subi v40 v37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v42 : BitVec 32 := Scalar.subi v41 v29
  let v43 : BitVec 32 := Scalar.maxsi c0_i32_18 v42
  let v44 : BitVec 32 := Scalar.minsi c1024_i32_19 v43
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v56 : BitVec 32 := Scalar.subi v44 v53
  let c0_i32_35 : BitVec 32 := 0#32
  let v63 : BitVec 1 := Scalar.cmpi .sgt v56 c0_i32_35
  let c32_i32_36 : BitVec 32 := 32#32
  let v64 : BitVec 1 := Scalar.cmpi .slt v56 c32_i32_36
  let v65 : BitVec 1 := Scalar.andi v63 v64
  let v66 : BitVec 32 := Scalar.extui v65
  let c0_i32_37 : BitVec 32 := 0#32
  let v67 : BitVec 1 := Scalar.cmpi .ne v66 c0_i32_37
  v67

def k0_cond4 (i : grid0.Coords) (v37 : BitVec 32) (v40 : BitVec 32) (k0_t3 : Fin k0_t3_loop.trips) (k0_t4 : Fin k0_t4_loop.trips) : BitVec 1 :=
  let c0_i32_40 : BitVec 32 := 0#32
  let c1_i32_42 : BitVec 32 := 1#32
  let arg14 : BitVec 32 := Scf.iv c0_i32_40 c1_i32_42 k0_t4
  let c1024_i32_19 : BitVec 32 := 1024#32
  let c0_i32_18 : BitVec 32 := 0#32
  let v41 : BitVec 32 := Scalar.subi v40 v37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v42 : BitVec 32 := Scalar.subi v41 v29
  let v43 : BitVec 32 := Scalar.maxsi c0_i32_18 v42
  let v44 : BitVec 32 := Scalar.minsi c1024_i32_19 v43
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v56 : BitVec 32 := Scalar.subi v44 v53
  let v70 : BitVec 1 := Scalar.cmpi .slt arg14 v56
  let v71 : BitVec 32 := Scalar.extui v70
  let c0_i32_44 : BitVec 32 := 0#32
  let v72 : BitVec 1 := Scalar.cmpi .ne v71 c0_i32_44
  v72

def k0_chk1 (i : grid0.Coords) (v37 : BitVec 32) (v40 : BitVec 32) : Prop :=
  (∀ k0_t3 : Fin k0_t3_loop.trips, ∀ (k0_h1 : k0_cond1 i v37 v40 k0_t3 = 1#1), ∀ a, (k0_off4 i v37 k0_t3) a + S32x1024.size a ≤ S16384x1024.size a) ∧
  (∀ (k0_t3 : Fin k0_t3_loop.trips) (k0_t4 : Fin k0_t4_loop.trips), ∀ (k0_h3 : k0_cond3 i v37 v40 k0_t3 = 1#1), ∀ (k0_h4 : k0_cond4 i v37 v40 k0_t3 k0_t4 = 1#1), ∀ a, (k0_off8 i v37 k0_t3 k0_t4) a + S1x1024.size a ≤ S16384x1024.size a)
theorem k0_off4_inb : ∀ (i : grid0.Coords) (v37 : BitVec 32) (v40 : BitVec 32) (k0_hw1 : k0_chk1 i v37 v40) (k0_t3 : Fin k0_t3_loop.trips), ∀ (k0_h1 : k0_cond1 i v37 v40 k0_t3 = 1#1), ∀ a, (k0_off4 i v37 k0_t3) a + S32x1024.size a ≤ S16384x1024.size a := fun i v37 v40 k0_hw1 k0_t3 k0_h1 => k0_hw1.1 k0_t3 k0_h1
theorem k0_off8_inb : ∀ (i : grid0.Coords) (v37 : BitVec 32) (v40 : BitVec 32) (k0_hw1 : k0_chk1 i v37 v40) (k0_t3 : Fin k0_t3_loop.trips) (k0_t4 : Fin k0_t4_loop.trips), ∀ (k0_h3 : k0_cond3 i v37 v40 k0_t3 = 1#1), ∀ (k0_h4 : k0_cond4 i v37 v40 k0_t3 k0_t4 = 1#1), ∀ a, (k0_off8 i v37 k0_t3 k0_t4) a + S1x1024.size a ≤ S16384x1024.size a := fun i v37 v40 k0_hw1 k0_t3 k0_t4 k0_h3 k0_h4 => k0_hw1.2 k0_t3 k0_t4 k0_h3 k0_h4

def k0_off9 (i : grid0.Coords) (k0_t3 : Fin k0_t3_loop.trips) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_30 : BitVec 32 := 1024#32
  let v54 : BitVec 32 := Scalar.muli v1 c1024_i32_30
  let c0_i32_26 : BitVec 32 := 0#32
  let c1_i32_27 : BitVec 32 := 1#32
  let arg12 : BitVec 32 := Scf.iv c0_i32_26 c1_i32_27 k0_t3
  let c32_i32_29 : BitVec 32 := 32#32
  let v53 : BitVec 32 := Scalar.muli arg12 c32_i32_29
  let v55 : BitVec 32 := Scalar.addi v54 v53
  let c0_i32_40 : BitVec 32 := 0#32
  let c1_i32_42 : BitVec 32 := 1#32
  let arg14 : BitVec 32 := Scf.iv c0_i32_40 c1_i32_42 k0_t4
  let v75 : BitVec 32 := Scalar.addi v55 arg14
  let c0_i32_48_r8 : BitVec 32 := 0#32
  ![v75.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1024 : Shape := ⟨2, ![16384, 1024]⟩
abbrev S16384 : Shape := ⟨1, ![16384]⟩
abbrev S_ : Shape := ⟨0, ![]⟩
abbrev S16 : Shape := ⟨1, ![16]⟩
abbrev S16384x1 : Shape := ⟨2, ![16384, 1]⟩
abbrev S1 : Shape := ⟨1, ![1]⟩
abbrev S15 : Shape := ⟨1, ![15]⟩
abbrev S16x2048x1024 : Shape := ⟨3, ![16, 2048, 1024]⟩
abbrev S16384x2 : Shape := ⟨2, ![16384, 2]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S_, .i32⟩
  | .hbm, ⟨17, _⟩ => ⟨S16384, .i32⟩
  | .hbm, ⟨18, _⟩ => ⟨S16, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S16, .i32⟩
  | .hbm, ⟨24, _⟩ => ⟨S15, .i32⟩
  | .hbm, ⟨25, _⟩ => ⟨S16, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384, .i32⟩
  | .hbm, ⟨36, _⟩ => ⟨S16384, .i32⟩
  | .hbm, ⟨37, _⟩ => ⟨S_, .f32⟩
  | .hbm, ⟨38, _⟩ => ⟨S16x2048x1024, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S16384x1, .i32⟩
  | .hbm, ⟨55, _⟩ => ⟨S16384x2, .i32⟩
  | .hbm, ⟨56, _⟩ => ⟨S16x2048x1024, .f32⟩
  | .hbm, ⟨57, _⟩ => ⟨S2048, .i32⟩
  | .hbm, ⟨58, _⟩ => ⟨S1x2048, .i32⟩
  | .hbm, ⟨59, _⟩ => ⟨S16x1, .i32⟩
  | .hbm, ⟨60, _⟩ => ⟨S16x2048, .i32⟩
  | .hbm, ⟨61, _⟩ => ⟨S16x2048, .i32⟩
  | .hbm, ⟨62, _⟩ => ⟨S16x2048, .i1⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_call1_call0_c : Ref sig .tc := ⟨.hbm, 21, rfl⟩
abbrev main_call1_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_c_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Proof.Spec.lean ====
/-
  What both programs compute, in plain terms. The row numbers `batch` are sorted and below 16, so the rows of graph `b` are one
  run `start b … stop b - 1` of `src`; `padded` puts row `start b + p` of `src` at row `b * 2048 + p` when the graph has more than
  `p` rows and zero otherwise, and `mask` is 1 at those rows and 0 at the others.
-/
module

public import proofs.«01_k».proof.Proof.Gen.Pre_valid
public import Idealize.ShloMosaic.Lib.ValueIdxCore
public import Idealize.ShloMosaic.Lib.ReduceAll
public import Idealize.ShloMosaic.Lib.WordCmp
public import Idealize.ShloMosaic.Lib.StableHlo.Predicate
public import Idealize.ShloMosaic.Lib.Routing.Ops
public import Idealize.ShloMosaic.Lib.Routing.Count

@[expose] public section

noncomputable section

namespace Cert.Proof.Pad

open Idealize.ShloMosaic Idealize.ShloMosaic.ValueIdx Idealize.ShloMosaic.Routing Idealize.SL.Sem

/-- The graph number of row `i`, as a natural number. -/
def key (bt : IVec (shape1 16384) 32) (i : Nat) : Nat := if h : i < 16384 then (bt (ix1 ⟨i, h⟩)).toNat else 0

theorem key_eq (bt : IVec (shape1 16384) 32) (i : Fin 16384) : key bt i.val = (bt (ix1 i)).toNat := dif_pos i.isLt

theorem word_eq (bt : IVec (shape1 16384) 32) (i : Fin 16384) : bt (ix1 i) = BitVec.ofNat 32 (key bt i.val) := by
  rw [key_eq, BitVec.ofNat_toNat, BitVec.setWidth_eq]

/-- The row numbers are graph numbers, in order. -/
structure Sorted (bt : IVec (shape1 16384) 32) : Prop where
  lt : ∀ i, key bt i < 16
  mono : ∀ i j, i ≤ j → j < 16384 → key bt i ≤ key bt j

/-- The first row of graph `b`, the row after its last, and how many it has. -/
def start (bt : IVec (shape1 16384) 32) (b : Nat) : Nat := Nat.count (fun i => key bt i < b) 16384
def stop (bt : IVec (shape1 16384) 32) (b : Nat) : Nat := Nat.count (fun i => key bt i ≤ b) 16384
def len (bt : IVec (shape1 16384) 32) (b : Nat) : Nat := stop bt b - start bt b

theorem stop_le (bt : IVec (shape1 16384) 32) (b : Nat) : stop bt b ≤ 16384 := Nat.count_le _

theorem start_le_stop (bt : IVec (shape1 16384) 32) (b : Nat) : start bt b ≤ stop bt b :=
  Nat.count_mono_left fun _ _ h => Nat.le_of_lt h

theorem start_add_len (bt : IVec (shape1 16384) 32) (b : Nat) : start bt b + len bt b = stop bt b := by
  have := start_le_stop bt b
  unfold len
  omega

theorem start_succ (bt : IVec (shape1 16384) 32) (b : Nat) : start bt (b + 1) = stop bt b :=
  count_congr_of_lt _ fun _ _ => Nat.lt_succ_iff

theorem start_zero (bt : IVec (shape1 16384) 32) : start bt 0 = 0 :=
  Nat.count_iff_forall_not.2 fun _ _ h => Nat.not_lt_zero _ h

/-- The rows of graph `b` are those from `start b` on, before `stop b`. -/
theorem key_iff {bt : IVec (shape1 16384) 32} (hs : Sorted bt) {i : Nat} (hi : i < 16384) (b : Nat) :
    key bt i = b ↔ start bt b ≤ i ∧ i < stop bt b := by
  have h1 : key bt i < b ↔ i < start bt b :=
    lt_count_iff (Q := fun i => key bt i < b) (fun a c h hc q => Nat.lt_of_le_of_lt (hs.mono a c h hc) q) hi
  have h2 : key bt i ≤ b ↔ i < stop bt b :=
    lt_count_iff (Q := fun i => key bt i ≤ b) (fun a c h hc q => Nat.le_trans (hs.mono a c h hc) q) hi
  omega

/-- The number of rows of graph `b`. -/
theorem count_key (bt : IVec (shape1 16384) 32) (b : Nat) : Nat.count (fun i => key bt i = b) 16384 = len bt b := by
  have e : Nat.count (fun i => key bt i ≤ b) 16384
      = Nat.count (fun i => key bt i < b) 16384 + Nat.count (fun i => key bt i = b) 16384 := by
    induction 16384 with
    | zero => simp
    | succ n ih =>
      simp only [Nat.count_succ, ih]
      by_cases h1 : key bt n < b
      · simp [h1, Nat.le_of_lt h1, Nat.ne_of_lt h1]; omega
      · by_cases h2 : key bt n = b
        · simp [h2]; omega
        · have : ¬ key bt n ≤ b := by omega
          simp [h1, h2, this]
  unfold len stop start
  omega

/-- The sum of the lengths of the graphs below `j` is where graph `j` starts. -/
theorem sum_len (bt : IVec (shape1 16384) 32) (j : Nat) : ((List.range j).map (len bt)).sum = start bt j := by
  induction j with
  | zero => rw [start_zero]; rfl
  | succ j ih => rw [List.range_succ, List.map_append, List.sum_append, ih, start_succ, ← start_add_len]; simp

/-- The padded rows: 16 graphs of 2048 rows each. -/
def padded {α : Type} (z : α) (src : (shape2 16384 1024).Idx → α) (bt : IVec (shape1 16384) 32) : (shape2 32768 1024).Idx → α := fun i =>
  if (i 0).val % 2048 < len bt ((i 0).val / 2048) then
    src (ix2 ⟨min (start bt ((i 0).val / 2048) + (i 0).val % 2048) 16383, by omega⟩ (i 1))
  else z

/-- Which of the rows are real. -/
def mask (bt : IVec (shape1 16384) 32) : IVec (shape1 32768) 32 := fun i =>
  if (i 0).val % 2048 < len bt ((i 0).val / 2048) then 1#32 else 0#32

/-- What the precondition says of `batch`. -/
theorem sorted_of_pre {F : FTy → Type} [FloatOps F] (src : FVec F Pre_valid.S16384x1024 .f32) (bt : IVec Pre_valid.S16384 32)
    (h : Pre_valid.fn src bt = fun _ => 1#1) : Sorted bt := by
  have e := congrFun h ix0
  simp only [Pre_valid.fn, andi] at e
  have andi_one : ∀ p q : BitVec 1, IntOp.andi p q = 1#1 → p = 1#1 ∧ q = 1#1 := by decide
  obtain ⟨e1, e2⟩ := andi_one _ _ e
  obtain ⟨e3, e4⟩ := andi_one _ _ e1
  haveI : Subsingleton (Pre_valid.S_).Idx := ⟨fun a b => funext fun x => x.elim0⟩
  have f3 := fun i => Host.reduce_andi_all _ _ _ _ _ e3 i
  have f4 := fun i => Host.reduce_andi_all _ _ _ _ _ e4 i
  have f2 := fun i => Host.reduce_andi_all _ _ _ _ _ e2 i
  simp only [cmpi, broadcastInDim, constantI, extractStridedSlice] at f2 f3 f4
  have hlt : ∀ i : Fin 16384, (bt (ix1 i)).toNat < 16 := fun i => by
    have a := f3 (ix1 i)
    have b := f4 (ix1 i)
    have a : (bt (ix1 i)).toNat < 2 ^ 31 := by
      simp only [IntOp.cmpi, StableHlo.Predicate.ofBool_eq_one_iff, BitVec.sle_eq_decide, decide_eq_true_eq, BitVec.toInt_eq_toNat_cond,
        BitVec.toNat_ofNat, Nat.reducePow, Nat.reduceMod] at a
      have := (bt (ix1 i)).isLt
      omega
    rw [StableHlo.Predicate.slt_iff_toNat a (by decide)] at b
    exact b
  have hadj : ∀ i, i + 1 < 16384 → key bt i ≤ key bt (i + 1) := fun i hi => by
    have a := f2 (ix1 ⟨i, by omega⟩)
    have h0 : (fun a : Fin 1 => (⟨(![0] : Fin 1 → Nat) a + ((ix1 (⟨i, by omega⟩ : Fin 16383)) a).val, by
        obtain rfl : a = 0 := Subsingleton.elim _ _
        show 0 + i < 16384
        omega⟩ : Fin ((![16384] : Fin 1 → Nat) a))) = ix1 ⟨i, by omega⟩ := by
      funext a; obtain rfl : a = 0 := Subsingleton.elim _ _; exact Fin.ext (Nat.zero_add _)
    have h1 : (fun a : Fin 1 => (⟨(![1] : Fin 1 → Nat) a + ((ix1 (⟨i, by omega⟩ : Fin 16383)) a).val, by
        obtain rfl : a = 0 := Subsingleton.elim _ _
        show 1 + i < 16384
        omega⟩ : Fin ((![16384] : Fin 1 → Nat) a))) = ix1 ⟨i + 1, hi⟩ := by
      funext a; obtain rfl : a = 0 := Subsingleton.elim _ _; exact Fin.ext (Nat.add_comm _ _)
    have a' : IntOp.cmpi .sle (bt (ix1 ⟨i, by omega⟩)) (bt (ix1 ⟨i + 1, hi⟩)) = 1#1 := by
      rw [← h0, ← h1]; exact a
    rw [StableHlo.Predicate.sle_iff_toNat (Nat.lt_trans (hlt _) (by decide)) (Nat.lt_trans (hlt _) (by decide))] at a'
    rw [key_eq bt ⟨i, by omega⟩, key_eq bt ⟨i + 1, hi⟩]
    exact a'
  refine ⟨fun i => ?_, fun i j hij hj => ?_⟩
  · unfold key
    split
    · exact hlt _
    · decide
  · induction j, hij using Nat.le_induction with
    | base => exact Nat.le_refl _
    | succ j hij ih => exact Nat.le_trans (ih (by omega)) (hadj j hj)

end Cert.Proof.Pad

end
-- ==== Proof.Setup.lean ====
/- The launch of the SparseCore call as the library's theorem sees it: the arrays, the pieces of them that
   each vector subcore works on, and what is passed to a subcore and handed back.

   The call's first result has 32768 rows. It is held in 1024 chunks of 32 rows; the subcore numbered
   `2 * s + c` (`s` its number in its core, `c` the core) owns 32 consecutive ones. The second result is cut in
   32 parts of 1024 words, one for each subcore. The three operands are read by every subcore and are
   held in 32 equal shares. -/
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Spec

@[expose] public section

set_option maxRecDepth 16384

noncomputable section

namespace Cert.Proof.Pad

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The rows to be scattered, their graph numbers, the block of zero rows, the padded rows, the mask words. -/
abbrev sLoc (d : Dev nD) : Loc nD τ sig := (SparseCore.T d).loc main_arg0
abbrev bLoc (d : Dev nD) : Loc nD τ sig := (SparseCore.T d).loc main_arg1
abbrev zLoc (d : Dev nD) : Loc nD τ sig := (SparseCore.T d).loc main_v0
abbrev oLoc (d : Dev nD) : Loc nD τ sig := (SparseCore.T d).loc main_v1_0
abbrev mLoc (d : Dev nD) : Loc nD τ sig := (SparseCore.T d).loc main_v1_1

abbrev srcV : Memref sig .scVector .hbm S16384x1024 .f32 := Memref.whole main_arg0_scv
abbrev batV : Memref sig .scVector .hbm S16384 .i32 := Memref.whole main_arg1_scv
abbrev zerV : Memref sig .scVector .hbm S32x1024 .f32 := Memref.whole main_v0_scv
abbrev outV : Memref sig .scVector .hbm S32768x1024 .f32 := Memref.whole main_v1_0_scv
abbrev mskV : Memref sig .scVector .hbm S32768 .i32 := Memref.whole main_v1_1_scv
abbrev aBat : Memref sig .scVector .vmem S16384 .i32 := Memref.whole cc0_scratch0
abbrev aBlk : Memref sig .scVector .vmem S32x1024 .f32 := Memref.whole cc0_scratch1
abbrev aRow : Memref sig .scVector .vmem S32x1024 .f32 := Memref.whole cc0_scratch2
abbrev aZer : Memref sig .scVector .vmem S32x1024 .f32 := Memref.whole cc0_scratch3
abbrev aMsk : Memref sig .scVector .vmem S1024 .i32 := Memref.whole cc0_scratch4

theorem odiv : 1024 ∣ S32768x1024.size 0 := ⟨32, rfl⟩
theorem mdiv : 32 ∣ S32768.size 0 := ⟨1024, rfl⟩
/-- Chunk `n` of the padded rows: rows `32 * n` to `32 * n + 31`. -/
abbrev oRect (n : Fin 1024) : Rect S32768x1024 := Rect.part (s := S32768x1024) (a₀ := 0) odiv n
/-- Part `w` of the mask words: words `1024 * w` to `1024 * w + 1023`. -/
abbrev mRect (w : Fin 32) : Rect S32768 := Rect.part (s := S32768) (a₀ := 0) mdiv w
abbrev oSet (n : Fin 1024) : Finset S32768x1024.Idx := (oRect n).set
abbrev mSet (w : Fin 32) : Finset S32768.Idx := (mRect w).set

/-- The number of subcore `i` of core `c`, and its chunk `j`. -/
def wid (c : Fin 2) (i : Fin 16) : Fin 32 := ⟨2 * i.val + c.val, by omega⟩
def own (w : Fin 32) (j : Fin 32) : Fin 1024 := ⟨32 * w.val + j.val, by omega⟩

/-- A subcore's share of an operand. -/
abbrev shr (w : Fin 32) : PosShare TreeShare := leaf 5 fullShare w

variable [FloatOps F]

/-- The zero that fills the padding, and the block of zero rows as the program makes it. -/
def zval : F .f32 := FloatOps.ofBits .f32 0x00000000#32
def ZR (d : Dev nD) : Buf (Elt F) (zLoc d) := fun _ => (zval : F .f32)
/-- The padded rows and the mask words that the call is to leave. -/
def TG (d : Dev nD) : Buf (Elt F) (oLoc d) := padded (zval : F .f32) (m (sLoc d)) (m (bLoc d))
def MK (d : Dev nD) : Buf (Elt F) (mLoc d) := mask (m (bLoc d))

/-! ## What the handshakes carry -/

abbrev sPts (d : Dev nD) (w : Fin 32) : sProp 𝕄 := sLoc d ↦{shr w} m (sLoc d)
abbrev bPts (d : Dev nD) (w : Fin 32) : sProp 𝕄 := bLoc d ↦{shr w} m (bLoc d)
abbrev zPts (d : Dev nD) (w : Fin 32) : sProp 𝕄 := zLoc d ↦{shr w} (ZR d : Buf (Elt F) (zLoc d))
abbrev oPts (d : Dev nD) (n : Fin 1024) (f : Buf (Elt F) (oLoc d)) : sProp 𝕄 := oLoc d ↦[oSet n]{fullShare} f
abbrev oAll (d : Dev nD) (w : Fin 32) (f : Buf (Elt F) (oLoc d)) : sProp 𝕄 := bigSep Finset.univ fun j : Fin 32 => oPts d (own w j) f
abbrev mPts (d : Dev nD) (w : Fin 32) (f : Buf (Elt F) (mLoc d)) : sProp 𝕄 := mLoc d ↦[mSet w]{fullShare} f

/-- What a subcore is given and what it hands back: its shares of the operands, its chunks of the padded
    rows, its part of the mask words. -/
abbrev tileArr (d : Dev nD) (w : Fin 32) (fo : Buf (Elt F) (oLoc d)) (fm : Buf (Elt F) (mLoc d)) : sProp 𝕄 :=
  iprop(sPts m d w ∗ bPts m d w ∗ zPts d w ∗ oAll d w fo ∗ mPts d w fm)
abbrev tileIn (d : Dev nD) (w : Fin 32) : sProp 𝕄 := tileArr m d w (m (oLoc d)) (m (mLoc d))
abbrev tileOut (d : Dev nD) (w : Fin 32) : sProp 𝕄 := tileArr m d w (TG m d) (MK m d)

abbrev wOf (c : Fin ((K (F := F)).nCore 0)) (i : Fin ((K (F := F)).nSub 0)) : Fin 32 := wid (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileIn m d (wOf c i)
  dn := fun q d c => match q with
    | 0 => bigSep Finset.univ fun i : Fin ((K (F := F)).nSub 0) => tileOut m d (wOf c i)
  go := fun q d c i => match q with | 0 => tileIn m d (wOf c i)
  td := fun q d c i => match q with | 0 => tileOut m d (wOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileIn m d (wOf c i)))
  dn q d c := match q with
    | 0 => (inferInstance : BI.Storable (upEmb : UEmb _ 𝕄) (bigSep Finset.univ fun i : Fin ((K (F := F)).nSub 0) => tileOut m d (wOf c i)))
  go q d c i := match q with
    | 0 => (inferInstance : BI.Storable (upEmb : UEmb _ 𝕄) (tileIn m d (wOf c i)))
  td q d c i := match q with
    | 0 => (inferInstance : BI.Storable (upEmb : UEmb _ 𝕄) (tileOut m d (wOf c i)))

/-- What the proof asks of the launch memory: the graph numbers are below 16 and in order. -/
def PreOK : Prop := ∀ d : Dev nD, Sorted (m (bLoc d))

/-! ## The subcore's arrays as its program names them -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The subcore's number. -/
abbrev wL (L : grid0.Coords) : Fin 32 := wid (Fin.cast bound_zero (L 0)) (Fin.cast bound_one (L 1))

omit [FloatOps F] in
theorem wL_val : (wL L).val = 2 * (L 1).val + (L 0).val := rfl

abbrev thr (d : Dev nD) (L : grid0.Coords) : Thread nD τ := V d (cV L) (jV L)

omit [FloatOps F] in
theorem set_out (R : Rect S32768x1024) : (outV.view.slice R).set = R.set := by
  rw [View.set_slice]; exact Finset.map_refl
omit [FloatOps F] in
theorem set_msk (R : Rect S32768) : (mskV.view.slice R).set = R.set := by
  rw [View.set_slice]; exact Finset.map_refl

/-- A chunk of the padded rows by its first row. -/
theorem oRect_eq (o : Fin 2 → Nat) (h : ∀ a, o a + S32x1024.size a ≤ S32768x1024.size a) (n : Fin 1024) (h0 : o 0 = 32 * n.val) (h1 : o 1 = 0) :
    Rect.unit (s := S32768x1024) o S32x1024.size h = oRect n := by
  unfold oRect Rect.part Rect.block
  congr 1 <;> funext a
  · match a with
    | 0 => simp [Shape.partIx, Shape.partSize, h0]; omega
    | 1 => simp [Shape.partIx, Shape.partSize, h1]
  · match a with
    | 0 => simp [Shape.partSize]
    | 1 => simp [Shape.partSize]

omit [FloatOps F] in
theorem mRect_eq : Rect.unit (s := S32768) (k0_off3 L) S1024.size (k0_off3_inb L) = mRect (wL L) := by
  unfold mRect Rect.part Rect.block
  congr 1 <;> funext a
  · rw [k0_off3_eq]
    match a with
    | 0 => simp [Shape.partIx, Shape.partSize, wL_val]; omega
  · match a with
    | 0 => simp [Shape.partSize]

/-! ## The subcore's semaphores and scratch buffers -/

abbrev cell (d : Dev nD) (L : grid0.Coords) (s : DmaSems sig S_) : GSem nD τ sig := (thr d L, .dma s.sem)

/-- The nine semaphores. -/
abbrev cells (d : Dev nD) (L : grid0.Coords) : Finset (GSem nD τ sig) :=
  {cell d L cc0_scoped0, cell d L cc0_scoped1, cell d L cc0_scoped2,
    cell d L cc0_scoped3, cell d L cc0_scoped4, cell d L cc0_scoped5,
    cell d L cc0_scoped6, cell d L cc0_scoped7, cell d L cc0_scoped8}

omit [FloatOps F] in
theorem cells_sub : cells d L ⊆ ownCells (thr d L) := by
  have key (s : DmaSems sig S_) (h : (SemLoc.dma s.sem : SemLoc sig).isScoped .scVector = true) : cell d L s ∈ ownCells (thr d L) :=
    (mem_ownCells (g := cell d L s)).mpr ⟨rfl, h⟩
  intro g hg
  simp only [cells, Finset.mem_insert, Finset.mem_singleton] at hg
  rcases hg with rfl | rfl | rfl | rfl | rfl | rfl | rfl | rfl | rfl <;> exact key _ (by decide)

set_option maxHeartbeats 4000000 in
omit [FloatOps F] in
theorem ownSems0_V :
    (ownSems0 (thr d L) : sProp 𝕄)
      = iprop((semVal (cell d L cc0_scoped0) 0 ∗ semVal (cell d L cc0_scoped1) 0 ∗ semVal (cell d L cc0_scoped2) 0
            ∗ semVal (cell d L cc0_scoped3) 0 ∗ semVal (cell d L cc0_scoped4) 0 ∗ semVal (cell d L cc0_scoped5) 0
            ∗ semVal (cell d L cc0_scoped6) 0 ∗ semVal (cell d L cc0_scoped7) 0 ∗ semVal (cell d L cc0_scoped8) 0)
          ∗ bigSep (ownCells (thr d L) \ cells d L) fun g => semVal g 0) := by
  have key (s t : DmaSems sig S_) (h : s.sem ≠ t.sem) : cell d L s ≠ cell d L t := fun e => h (by simpa using congrArg Prod.snd e)
  unfold SparseCore.Cfg.ownSems0
  rw [SparseCore.bigSep_sdiff_split' (cells_sub d L)]
  refine congrArg (fun X : sProp 𝕄 => iprop(X ∗ bigSep (ownCells (thr d L) \ cells d L) fun g => semVal g 0)) ?_
  unfold cells
  iterate 8 rw [SparseCore.bigSep_insert' (by
    simp only [Finset.mem_insert, Finset.mem_singleton, not_or]
    repeat' apply And.intro
    all_goals exact key _ _ (by decide))]
  rw [bigSep_singleton]

/-- The five scratch buffers. -/
abbrev scrs (L : grid0.Coords) : Finset (DevRef τ sig) :=
  {(Proc.scVector (cV L) (jV L)).devRef cc0_scratch0, (Proc.scVector (cV L) (jV L)).devRef cc0_scratch1, (Proc.scVector (cV L) (jV L)).devRef cc0_scratch2,
    (Proc.scVector (cV L) (jV L)).devRef cc0_scratch3, (Proc.scVector (cV L) (jV L)).devRef cc0_scratch4}

omit [FloatOps F] in
theorem scrs_sub : scrs L ⊆ ownRefs (τ := τ) (.scVector (cV L) (jV L)) := by
  intro b hb
  simp only [scrs, Finset.mem_insert, Finset.mem_singleton] at hb
  rcases hb with rfl | rfl | rfl | rfl | rfl <;> exact SparseCore.Cfg.mem_ownRefs_of_owner rfl

omit [FloatOps F] in
theorem ownBufs_V :
    (ownBufs (thr d L) : sProp 𝕄)
      = iprop(((∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f))
          ∗ bigSep (ownRefs (τ := τ) (.scVector (cV L) (jV L)) \ scrs L) fun b => iprop(∃ f, ((d, b) : Loc nD τ sig) ↦{fullShare} f)) := by
  have key (s t : Ref sig .scVector) (h : s ≠ t) : (Proc.scVector (cV L) (jV L)).devRef s ≠ (Proc.scVector (cV L) (jV L)).devRef t :=
    fun e => h (Proc.devRef_injective _ e)
  unfold SparseCore.Cfg.ownBufs
  rw [SparseCore.bigSep_sdiff_split' (scrs_sub L)]
  refine congrArg (fun X : sProp 𝕄 => iprop(X ∗ bigSep (ownRefs (τ := τ) (.scVector (cV L) (jV L)) \ scrs L) fun b => iprop(∃ f, ((d, b) : Loc nD τ sig) ↦{fullShare} f))) ?_
  unfold scrs
  iterate 4 rw [SparseCore.bigSep_insert' (by
    simp only [Finset.mem_insert, Finset.mem_singleton, not_or]
    repeat' apply And.intro
    all_goals exact key _ _ (by decide))]
  rw [bigSep_singleton]

end Tile

end Cert.Proof.Pad

end
-- ==== Proof.Words.lean ====
/- The words that the subcore's program computes, as numbers: the two counts that its first loop adds up in
   sixteen lanes, the mask words, and the conditions and row offsets of its last loops. -/
module

public import proofs.«01_k».proof.Proof.Gen.KernelIdeal
public import proofs.«01_k».proof.Proof.Gen.KernelIdeal.Skeleton
public import proofs.«01_k».proof.Proof.Spec
public import Idealize.ShloMosaic.Lib.Routing.BitFacts

@[expose] public section

set_option maxRecDepth 16384

noncomputable section

namespace Cert.Proof.Pad

open Cert.KernelIdeal Cert.KernelIdeal.Gen
open Idealize.ShloMosaic Idealize.ShloMosaic.ValueIdx Idealize.ShloMosaic.Routing Idealize.ShloMosaic.WordCmp Idealize.SL.Sem

variable {F : FTy → Type}

/-! ## The subcore's graph and its first row in it -/

/-- The subcore's first row in its graph, as the program computes it. -/
def p0w (i : grid0.Coords) : BitVec 32 :=
  let v1 : BitVec 32 := Scalar.addi (Scalar.muli (BitVec.ofNat 32 (i 1).val) 2#32) (BitVec.ofNat 32 (i 0).val)
  let v20 : BitVec 32 := Scalar.select (Scalar.cmpi .eq 2#32 0#32) 1#32 2#32
  let v21 : BitVec 32 := Scalar.remsi v1 v20
  let v26 : BitVec 1 := Scalar.andi (Scalar.xori (Scalar.cmpi .slt v21 0#32) (Scalar.cmpi .slt v20 0#32)) (Scalar.cmpi .ne v21 0#32)
  Scalar.muli (Scalar.select v26 (Scalar.addi v21 v20) v21) 1024#32

theorem p0w_eq (i : grid0.Coords) : p0w i = BitVec.ofNat 32 (1024 * (i 0).val) := by
  have key : ∀ (c : Fin 2) (s : Fin 16), p0w (fun | 0 => c | 1 => s | ⟨_ + 2, h⟩ => absurd h (Nat.not_lt.2 (Nat.le_add_left _ _)))
      = BitVec.ofNat 32 (1024 * c.val) := by decide +kernel
  have e : i = (fun | 0 => i 0 | 1 => i 1 | ⟨_ + 2, h⟩ => absurd h (Nat.not_lt.2 (Nat.le_add_left _ _))) := by
    funext a; match a with | 0 => rfl | 1 => rfl
  conv_lhs => rw [e]
  exact key (i 0) (i 1)

theorem pay8_eq (i : grid0.Coords) : k0_pay8 i = fun _ => BitVec.ofNat 32 (i 1).val := by
  have key : ∀ (c : Fin 2) (s : Fin 16), k0_pay8 (fun | 0 => c | 1 => s | ⟨_ + 2, h⟩ => absurd h (Nat.not_lt.2 (Nat.le_add_left _ _))) (ix1 0)
      = BitVec.ofNat 32 s.val := by decide +kernel
  have e : i = (fun | 0 => i 0 | 1 => i 1 | ⟨_ + 2, h⟩ => absurd h (Nat.not_lt.2 (Nat.le_add_left _ _))) := by
    funext a; match a with | 0 => rfl | 1 => rfl
  funext l
  refine Eq.trans (b := k0_pay8 i (ix1 0)) rfl ?_
  conv_lhs => rw [e]
  exact key (i 0) (i 1)

/-! ## The counts -/

/-- After `k` trips lane `l` has counted, of the places `l`, `16 + l`, …, the ones at which `p` holds. -/
def cnt (p : Nat → Prop) [DecidablePred p] (k : Nat) : IVec S16 32 := fun l => BitVec.ofNat 32 (Nat.count (fun t => p (16 * t + (l 0).val)) k)

theorem cnt_zero (p : Nat → Prop) [DecidablePred p] : cnt p 0 = k0_pay6 := rfl

/-- One trip adds one in the lanes at whose place `p` holds. -/
theorem cnt_succ (p : Nat → Prop) [DecidablePred p] (k : Nat) (c : IVec S16 1) (hc : ∀ l, c l = 1#1 ↔ p (16 * k + (l 0).val)) :
    addi (cnt p k) (select c k0_pay7 k0_pay6) = cnt p (k + 1) := by
  funext l
  show (BitVec.ofNat 32 (Nat.count (fun t => p (16 * t + (l 0).val)) k)) + (if c l = 1#1 then 1#32 else 0#32)
    = BitVec.ofNat 32 (Nat.count (fun t => p (16 * t + (l 0).val)) (k + 1))
  rw [Nat.count_succ]
  by_cases h : p (16 * k + (l 0).val)
  · rw [if_pos ((hc l).mpr h), if_pos h, BitVec.ofNat_add]
  · rw [if_neg (fun e => h ((hc l).mp e)), if_neg h, BitVec.ofNat_add]

theorem pay1_step {bt : IVec (shape1 16384) 32} (hs : Sorted bt) (i : grid0.Coords) (k : Nat) (hk : k < 1024) (v : Vec F S16 .i32)
    (hv : ∀ l : S16.Idx, v l = BitVec.ofNat 32 (key bt (16 * k + (l 0).val))) :
    k0_pay1 (F := F) k0_pay6 k0_pay7 (k0_pay8 i) (cnt (fun n => key bt n < (i 1).val) k) v = cnt (fun n => key bt n < (i 1).val) (k + 1) := by
  refine cnt_succ _ k _ fun l => ?_
  show IntOp.cmpi .slt (v l) (k0_pay8 i l) = 1#1 ↔ _
  have h1 := hs.lt (16 * k + (l 0).val)
  have h2 : (i 1).val < 16 := (i 1).isLt
  rw [pay8_eq, hv, cmpi_slt_ofNat_eq_one_iff (by omega) (by omega)]

theorem pay2_step {bt : IVec (shape1 16384) 32} (hs : Sorted bt) (i : grid0.Coords) (k : Nat) (hk : k < 1024) (v : Vec F S16 .i32)
    (hv : ∀ l : S16.Idx, v l = BitVec.ofNat 32 (key bt (16 * k + (l 0).val))) :
    k0_pay2 (F := F) k0_pay6 k0_pay7 (k0_pay8 i) (cnt (fun n => key bt n ≤ (i 1).val) k) v = cnt (fun n => key bt n ≤ (i 1).val) (k + 1) := by
  refine cnt_succ _ k _ fun l => ?_
  show IntOp.cmpi .sle (v l) (k0_pay8 i l) = 1#1 ↔ _
  have h1 := hs.lt (16 * k + (l 0).val)
  have h2 : (i 1).val < 16 := (i 1).isLt
  rw [pay8_eq, hv, cmpi_sle_ofNat_eq_one_iff (by omega) (by omega)]

/-- The sixteen lanes together count every place. -/
theorem count_lanes (p : Nat → Prop) [DecidablePred p] (k : Nat) :
    ((List.range 16).map fun l => Nat.count (fun t => p (16 * t + l)) k).sum = Nat.count p (16 * k) := by
  induction k with
  | zero => simp
  | succ k ih =>
    rw [show 16 * (k + 1) = 16 * k + 16 by omega, Nat.count_add, ← ih]
    simp only [show List.range 16 = [0, 1, 2, 3, 4, 5, 6, 7, 8, 9, 10, 11, 12, 13, 14, 15] from rfl, List.map_cons, List.map_nil, List.sum_cons, List.sum_nil,
      Nat.count_succ, Nat.count_zero]
    omega

/-- A running sum of words is the word of the running sum. -/
theorem foldl_addi {ι : Type} (f : ι → Nat) (l : List ι) (z : Nat) :
    l.foldl (fun r k => IntOp.addi r (BitVec.ofNat 32 (f k))) (BitVec.ofNat 32 z) = BitVec.ofNat 32 (z + (l.map f).sum) := by
  induction l generalizing z with
  | nil => simp
  | cons a l ih =>
    rw [List.foldl_cons, show IntOp.addi (BitVec.ofNat 32 z) (BitVec.ofNat 32 (f a)) = BitVec.ofNat 32 (z + f a) from (BitVec.ofNat_add ..).symm, ih,
      List.map_cons, List.sum_cons, Nat.add_assoc]

theorem scan_last (v : IVec S16 32) (f : Nat → Nat) (hv : ∀ l, v l = BitVec.ofNat 32 (f (l 0).val)) :
    extractAt ![15] (scan .sum v) inpos_S16_p15 = BitVec.ofNat 32 ((List.range 16).map f).sum := by
  obtain rfl : v = fun l => BitVec.ofNat 32 (f (l 0).val) := funext hv
  have hl : (List.finRange 16).filter (fun k => decide (0 < k.val ∧ k.val ≤ 15)) = [1, 2, 3, 4, 5, 6, 7, 8, 9, 10, 11, 12, 13, 14, 15] := by decide +kernel
  unfold extractAt scan
  simp only [ScanKind.step]
  refine (foldl_addi (fun k : Fin (![16] 0) => f k.val) _ _).trans (congrArg (BitVec.ofNat 32) ?_)
  refine Eq.trans (b := f 0 + (((List.finRange 16).filter (fun k => decide (0 < k.val ∧ k.val ≤ 15))).map fun k : Fin 16 => f k.val).sum) rfl ?_
  rw [hl]
  simp [show List.range 16 = [0, 1, 2, 3, 4, 5, 6, 7, 8, 9, 10, 11, 12, 13, 14, 15] from rfl]

theorem total (p : Nat → Prop) [DecidablePred p] :
    extractAt ![15] (scan .sum (cnt p 1024)) inpos_S16_p15 = BitVec.ofNat 32 (Nat.count p 16384) := by
  exact (scan_last (cnt p 1024) (fun l => Nat.count (fun t => p (16 * t + l)) 1024) fun _ => rfl).trans (congrArg _ (count_lanes p 1024))

/-! ## How many of the subcore's rows hold data -/

/-- Of the subcore's 1024 rows the first `nv a b c` hold data, `a` and `b` being where its graph starts and stops and
    `c` which half of the graph is its own. -/
def nv (a b c : Nat) : Nat := min 1024 (b - a - 1024 * c)

def availw (i : grid0.Coords) (v37 v40 : BitVec 32) : BitVec 32 :=
  Scalar.minsi 1024#32 (Scalar.maxsi 0#32 (Scalar.subi (Scalar.subi v40 v37) (p0w i)))

theorem toInt_ofNat {n : Nat} (h : n < 2 ^ 31) : (BitVec.ofNat 32 n).toInt = n := toInt_ofNat_of_lt (w := 32) h

theorem toInt_sub_ofNat {a b : Nat} (ha : a < 2 ^ 31) (hb : b < 2 ^ 31) : (BitVec.ofNat 32 a - BitVec.ofNat 32 b).toInt = (a : Int) - b := by
  rw [BitVec.toInt_sub, toInt_ofNat ha, toInt_ofNat hb]
  exact Int.bmod_eq_of_le (by omega) (by omega)

theorem availw_eq (i : grid0.Coords) {a b : Nat} (hab : a ≤ b) (hb : b ≤ 16384) :
    availw i (BitVec.ofNat 32 a) (BitVec.ofNat 32 b) = BitVec.ofNat 32 (nv a b (i 0).val) := by
  have hc : (i 0).val < 2 := (i 0).isLt
  unfold availw nv
  rw [p0w_eq]
  have e1 : Scalar.subi (BitVec.ofNat 32 b) (BitVec.ofNat 32 a) = BitVec.ofNat 32 (b - a) := ofNat32_sub hab
  rw [e1]
  have h := toInt_sub_ofNat (a := b - a) (b := 1024 * (i 0).val) (by omega) (by omega)
  have e2 : Scalar.maxsi 0#32 (Scalar.subi (BitVec.ofNat 32 (b - a)) (BitVec.ofNat 32 (1024 * (i 0).val))) = BitVec.ofNat 32 (b - a - 1024 * (i 0).val) := by
    show (if (BitVec.ofNat 32 (b - a) - BitVec.ofNat 32 (1024 * (i 0).val)).slt 0#32 then 0#32
      else (BitVec.ofNat 32 (b - a) - BitVec.ofNat 32 (1024 * (i 0).val))) = _
    rw [BitVec.slt_eq_decide, h]
    by_cases hlt : 1024 * (i 0).val ≤ b - a
    · rw [if_neg (by simp; omega), ofNat32_sub hlt]
    · rw [if_pos (by simp; omega), Nat.sub_eq_zero_of_le (by omega)]
  rw [e2]
  show (if (1024#32).slt (BitVec.ofNat 32 (b - a - 1024 * (i 0).val)) then 1024#32 else BitVec.ofNat 32 (b - a - 1024 * (i 0).val)) = _
  rw [BitVec.slt_eq_decide, toInt_ofNat (show b - a - 1024 * (i 0).val < 2 ^ 31 by omega), show (1024#32).toInt = 1024 from rfl]
  by_cases h3 : 1024 < b - a - 1024 * (i 0).val
  · rw [if_pos (by simp; omega), Nat.min_eq_left (by omega)]
  · rw [if_neg (by simp; omega)]
    exact congrArg _ (Nat.min_eq_right (by omega)).symm

/-- What of it is left at the subcore's chunk `t`. -/
def leftw (i : grid0.Coords) (v37 v40 : BitVec 32) (t : Nat) : BitVec 32 :=
  Scalar.subi (availw i v37 v40) (Scalar.muli (Scf.iv 0#32 1#32 t) 32#32)

theorem iv_eq (t : Nat) : Scf.iv 0#32 1#32 t = BitVec.ofNat 32 t := by simp [Scf.iv]

theorem mul32_eq (t : Nat) : Scalar.muli (Scf.iv 0#32 1#32 t) 32#32 = BitVec.ofNat 32 (32 * t) := by
  rw [iv_eq, Nat.mul_comm]; exact (BitVec.ofNat_mul ..).symm

theorem nv_le (a b c : Nat) : nv a b c ≤ 1024 := Nat.min_le_left _ _

theorem leftw_toInt (i : grid0.Coords) {a b : Nat} (hab : a ≤ b) (hb : b ≤ 16384) {t : Nat} (ht : t < 32) :
    (leftw i (BitVec.ofNat 32 a) (BitVec.ofNat 32 b) t).toInt = (nv a b (i 0).val : Int) - 32 * t := by
  unfold leftw
  rw [availw_eq i hab hb, mul32_eq]
  have := nv_le a b (i 0).val
  refine (toInt_sub_ofNat (by omega) (by omega)).trans ?_
  push_cast; rfl

theorem ne_zero_iff (b : BitVec 1) : Scalar.cmpi .ne (Scalar.extui b) 0#32 = 1#1 ↔ b = 1#1 := by
  revert b; decide

theorem cond1_iff (i : grid0.Coords) {a b : Nat} (hab : a ≤ b) (hb : b ≤ 16384) (t : Fin k0_t3_loop.trips) :
    k0_cond1 i (BitVec.ofNat 32 a) (BitVec.ofNat 32 b) t = 1#1 ↔ 32 * t.val + 32 ≤ nv a b (i 0).val := by
  have ht : t.val < 32 := t.isLt
  have h := leftw_toInt i hab hb ht
  show Scalar.cmpi .ne (Scalar.extui (Scalar.cmpi .sge (leftw i (BitVec.ofNat 32 a) (BitVec.ofNat 32 b) t.val) 32#32)) 0#32 = 1#1 ↔ _
  rw [ne_zero_iff]
  show BitVec.ofBool (decide ((32#32).toInt ≤ (leftw i (BitVec.ofNat 32 a) (BitVec.ofNat 32 b) t.val).toInt)) = 1#1 ↔ _
  rw [h, ofBool_decide_eq_one_iff, show (32#32).toInt = 32 from rfl]; omega

theorem cond2_iff (i : grid0.Coords) {a b : Nat} (hab : a ≤ b) (hb : b ≤ 16384) (t : Fin k0_t3_loop.trips) :
    Scalar.cmpi .ne (Scalar.extui (Scalar.cmpi .sle (leftw i (BitVec.ofNat 32 a) (BitVec.ofNat 32 b) t.val) 0#32)) 0#32 = 1#1
      ↔ nv a b (i 0).val ≤ 32 * t.val := by
  have ht : t.val < 32 := t.isLt
  have h := leftw_toInt i hab hb ht
  rw [ne_zero_iff]
  show BitVec.ofBool (decide ((leftw i (BitVec.ofNat 32 a) (BitVec.ofNat 32 b) t.val).toInt ≤ (0#32).toInt)) = 1#1 ↔ _
  rw [h, ofBool_decide_eq_one_iff, show (0#32).toInt = 0 from rfl]; omega

theorem cond3_iff (i : grid0.Coords) {a b : Nat} (hab : a ≤ b) (hb : b ≤ 16384) (t : Fin k0_t3_loop.trips) :
    k0_cond3 i (BitVec.ofNat 32 a) (BitVec.ofNat 32 b) t = 1#1 ↔ 32 * t.val < nv a b (i 0).val ∧ nv a b (i 0).val < 32 * t.val + 32 := by
  have ht : t.val < 32 := t.isLt
  have h := leftw_toInt i hab hb ht
  show Scalar.cmpi .ne (Scalar.extui (Scalar.andi (Scalar.cmpi .sgt (leftw i (BitVec.ofNat 32 a) (BitVec.ofNat 32 b) t.val) 0#32)
    (Scalar.cmpi .slt (leftw i (BitVec.ofNat 32 a) (BitVec.ofNat 32 b) t.val) 32#32))) 0#32 = 1#1 ↔ _
  rw [ne_zero_iff]
  show IntOp.andi (BitVec.ofBool (decide ((0#32).toInt < (leftw i (BitVec.ofNat 32 a) (BitVec.ofNat 32 b) t.val).toInt)))
    (BitVec.ofBool (decide ((leftw i (BitVec.ofNat 32 a) (BitVec.ofNat 32 b) t.val).toInt < (32#32).toInt))) = 1#1 ↔ _
  rw [andi_ofBool, h, ofBool_eq_one_iff, show (0#32).toInt = 0 from rfl, show (32#32).toInt = 32 from rfl, Bool.and_eq_true, decide_eq_true_eq, decide_eq_true_eq]
  omega

theorem cond4_iff (i : grid0.Coords) {a b : Nat} (hab : a ≤ b) (hb : b ≤ 16384) (t : Fin k0_t3_loop.trips) (r : Fin k0_t4_loop.trips) :
    k0_cond4 i (BitVec.ofNat 32 a) (BitVec.ofNat 32 b) t r = 1#1 ↔ 32 * t.val + r.val < nv a b (i 0).val := by
  have ht : t.val < 32 := t.isLt
  have hr : r.val < 32 := r.isLt
  have h := leftw_toInt i hab hb ht
  show Scalar.cmpi .ne (Scalar.extui (Scalar.cmpi .slt (Scf.iv 0#32 1#32 r.val) (leftw i (BitVec.ofNat 32 a) (BitVec.ofNat 32 b) t.val))) 0#32 = 1#1 ↔ _
  rw [ne_zero_iff, iv_eq]
  show BitVec.ofBool (decide ((BitVec.ofNat 32 r.val).toInt < (leftw i (BitVec.ofNat 32 a) (BitVec.ofNat 32 b) t.val).toInt)) = 1#1 ↔ _
  rw [h, ofBool_decide_eq_one_iff, toInt_ofNat (by omega)]; omega

/-- The first source row of chunk `t`, and row `r` of it. -/
theorem off4_eq (i : grid0.Coords) {a : Nat} (ha : a ≤ 16384) (t : Fin k0_t3_loop.trips) :
    k0_off4 i (BitVec.ofNat 32 a) t = ![a + 1024 * (i 0).val + 32 * t.val, 0] := by
  have hc : (i 0).val < 2 := (i 0).isLt
  have ht : t.val < 32 := t.isLt
  show ![(Scalar.addi (Scalar.addi (BitVec.ofNat 32 a) (p0w i)) (Scalar.muli (Scf.iv 0#32 1#32 t.val) 32#32)).toNat, 0] = _
  rw [p0w_eq, mul32_eq]
  show ![(BitVec.ofNat 32 a + BitVec.ofNat 32 (1024 * (i 0).val) + BitVec.ofNat 32 (32 * t.val)).toNat, 0] = _
  rw [← BitVec.ofNat_add, ← BitVec.ofNat_add, toNat_ofNat_of_lt (by omega)]

theorem off8_eq (i : grid0.Coords) {a : Nat} (ha : a ≤ 16384) (t : Fin k0_t3_loop.trips) (r : Fin k0_t4_loop.trips) :
    k0_off8 i (BitVec.ofNat 32 a) t r = ![a + 1024 * (i 0).val + 32 * t.val + r.val, 0] := by
  have hc : (i 0).val < 2 := (i 0).isLt
  have ht : t.val < 32 := t.isLt
  have hr : r.val < 32 := r.isLt
  show ![(Scalar.addi (Scalar.addi (Scalar.addi (BitVec.ofNat 32 a) (p0w i)) (Scalar.muli (Scf.iv 0#32 1#32 t.val) 32#32)) (Scf.iv 0#32 1#32 r.val)).toNat, 0] = _
  rw [p0w_eq, mul32_eq, iv_eq]
  show ![(BitVec.ofNat 32 a + BitVec.ofNat 32 (1024 * (i 0).val) + BitVec.ofNat 32 (32 * t.val) + BitVec.ofNat 32 r.val).toNat, 0] = _
  rw [← BitVec.ofNat_add, ← BitVec.ofNat_add, ← BitVec.ofNat_add, toNat_ofNat_of_lt (by omega)]

/-- The rows that the program reads are rows of the source. -/
theorem chk1 (i : grid0.Coords) {a b : Nat} (hab : a ≤ b) (hb : b ≤ 16384) : k0_chk1 i (BitVec.ofNat 32 a) (BitVec.ofNat 32 b) := by
  have hn : nv a b (i 0).val ≤ b - a - 1024 * (i 0).val := Nat.min_le_right _ _
  refine ⟨fun t h1 x => ?_, fun t r h3 h4 x => ?_⟩
  · rw [cond1_iff i hab hb] at h1
    rw [off4_eq i (hab.trans hb)]
    match x with
    | 0 => show a + 1024 * (i 0).val + 32 * t.val + 32 ≤ 16384; omega
    | 1 => show 0 + 1024 ≤ 1024; omega
  · rw [cond4_iff i hab hb] at h4
    rw [off8_eq i (hab.trans hb)]
    match x with
    | 0 => show a + 1024 * (i 0).val + 32 * t.val + r.val + 1 ≤ 16384; omega
    | 1 => show 0 + 1024 ≤ 1024; omega

/-! ## The mask words -/

theorem pay5_eq (i : grid0.Coords) (lt le : IVec S16 32) {a b : Nat} (hab : a ≤ b) (hb : b ≤ 16384) (t : Fin k0_t2_loop.trips)
    (hlt : extractAt ![15] (k0_pay3 lt) inpos_S16_p15 = BitVec.ofNat 32 a) (hle : extractAt ![15] (k0_pay4 le) inpos_S16_p15 = BitVec.ofNat 32 b) :
    k0_pay5 (p0w i) k0_pay6 k0_pay7 lt le t = fun l => if 1024 * (i 0).val + 16 * t.val + (l 0).val < b - a then 1#32 else 0#32 := by
  have hc : (i 0).val < 2 := (i 0).isLt
  have ht : t.val < 64 := t.isLt
  funext l
  have hl : (l 0).val < 16 := (l 0).isLt
  show (if IntOp.cmpi .slt (IntOp.addi (Scalar.addi (p0w i) (Scalar.muli (Scf.iv 0#32 1#32 t.val) 16#32)) (iota .scVector S16 32 [0] iota_S16_d0_w32_scVector l))
    (Scalar.subi (extractAt ![15] (k0_pay4 le) inpos_S16_p15) (extractAt ![15] (k0_pay3 lt) inpos_S16_p15)) = 1#1 then 1#32 else 0#32) = _
  rw [hlt, hle, p0w_eq, iv_eq, show iota .scVector S16 32 [0] iota_S16_d0_w32_scVector l = BitVec.ofNat 32 (l 0).val by simp [iota]]
  have e1 : Scalar.subi (BitVec.ofNat 32 b) (BitVec.ofNat 32 a) = BitVec.ofNat 32 (b - a) := ofNat32_sub hab
  have e2 : Scalar.muli (BitVec.ofNat 32 t.val) 16#32 = BitVec.ofNat 32 (16 * t.val) := by rw [Nat.mul_comm]; exact (BitVec.ofNat_mul ..).symm
  rw [e1, e2]
  show (if IntOp.cmpi .slt (BitVec.ofNat 32 (1024 * (i 0).val) + BitVec.ofNat 32 (16 * t.val) + BitVec.ofNat 32 (l 0).val) (BitVec.ofNat 32 (b - a)) = 1#1 then 1#32 else 0#32) = _
  rw [← BitVec.ofNat_add, ← BitVec.ofNat_add]
  exact if_congr (cmpi_slt_ofNat_eq_one_iff (by omega) (by omega)) rfl rfl

end Cert.Proof.Pad

end
-- ==== Proof.Rows.lean ====
/-
  The padded rows and the mask words at the places one subcore writes, the views it writes them through, and
  what those views hold after its copies.
-/
module

public import proofs.«01_k».proof.Proof.Setup
public import proofs.«01_k».proof.Proof.Words

@[expose] public section

set_option maxRecDepth 16384

noncomputable section

namespace Cert.Proof.Pad

open Cert.KernelIdeal Cert.KernelIdeal.Gen
open Idealize.ShloMosaic Idealize.ShloMosaic.ValueIdx Idealize.ShloMosaic.Routing
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Rounds

/-! ## Entries of the padded rows and of the mask -/

section Entries

variable {α : Type} (z : α) (src : (shape2 16384 1024).Idx → α) (bt : IVec (shape1 16384) 32)

/-- A row below the graph's count holds the graph's row of that rank. -/
theorem padded_row {i : (shape2 32768 1024).Idx} {b p : Nat} (hi : (i 0).val = 2048 * b + p) (hp : p < 2048) (h : p < len bt b)
    {j : (shape2 16384 1024).Idx} (hj0 : (j 0).val = start bt b + p) (hj1 : (j 1).val = (i 1).val) : padded z src bt i = src j := by
  have e1 : (i 0).val / 2048 = b := by omega
  have e2 : (i 0).val % 2048 = p := by omega
  unfold padded
  simp only [e1, e2, if_pos h]
  refine congrArg src (funext fun a => Fin.ext ?_)
  have hj : (j 0).val < 16384 := (j 0).isLt
  match a with
  | 0 => show min (start bt b + p) 16383 = (j 0).val; omega
  | 1 => exact hj1.symm

/-- A row past the graph's count holds zeros. -/
theorem padded_zero {i : (shape2 32768 1024).Idx} {b p : Nat} (hi : (i 0).val = 2048 * b + p) (hp : p < 2048) (h : len bt b ≤ p) :
    padded z src bt i = z := by
  have e1 : (i 0).val / 2048 = b := by omega
  have e2 : (i 0).val % 2048 = p := by omega
  unfold padded
  simp only [e1, e2, if_neg (Nat.not_lt.2 h)]

theorem mask_at {i : (shape1 32768).Idx} {b p : Nat} (hi : (i 0).val = 2048 * b + p) (hp : p < 2048) :
    mask bt i = if p < len bt b then 1#32 else 0#32 := by
  have e1 : (i 0).val / 2048 = b := by omega
  have e2 : (i 0).val % 2048 = p := by omega
  unfold mask
  simp only [e1, e2]

end Entries

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The views -/

/-- A block of 32 rows of the padded rows, and one row of them. -/
abbrev blkV (o : Fin 2 → Nat) (h : ∀ a, o a + S32x1024.size a ≤ S32768x1024.size a) : Memref sig .scVector .hbm S32x1024 .f32 :=
  outV.slice (Rect.unit (s := S32768x1024) o S32x1024.size h) (fun _ => rfl)
abbrev rowV (o : Fin 2 → Nat) (h : ∀ a, o a + S1x1024.size a ≤ S32768x1024.size a) : Memref sig .scVector .hbm S1x1024 .f32 :=
  outV.slice (Rect.unit (s := S32768x1024) o S1x1024.size h) (fun _ => rfl)
/-- The subcore's part of the mask words. -/
abbrev mskSl : Memref sig .scVector .hbm S1024 .i32 :=
  mskV.slice (Rect.unit (s := S32768) (k0_off3 L) S1024.size (k0_off3_inb L)) (fun _ => rfl)

/-- A chunk as the copies name it. -/
theorem oPts_eq (o : Fin 2 → Nat) (h : ∀ a, o a + S32x1024.size a ≤ S32768x1024.size a) (n : Fin 1024) (h0 : o 0 = 32 * n.val) (h1 : o 1 = 0)
    (f : Buf (Elt F) (oLoc d)) :
    (oPts d n f : sProp 𝕄) = ((blkV o h).view.loc (thr d L) ↦[(blkV o h).view.set]{fullShare} f) := by
  show _ = (oLoc d ↦[(outV.view.slice (Rect.unit (s := S32768x1024) o S32x1024.size h)).set]{fullShare} f)
  rw [set_out, oRect_eq o h n h0 h1]

theorem mPts_eq (f : Buf (Elt F) (mLoc d)) :
    (mPts d (wL L) f : sProp 𝕄) = ((mskSl L).view.loc (thr d L) ↦[(mskSl L).view.set]{fullShare} f) := by
  show _ = (mLoc d ↦[(mskV.view.slice (Rect.unit (s := S32768) (k0_off3 L) S1024.size (k0_off3_inb L))).set]{fullShare} f)
  rw [set_msk, mRect_eq]

/-- What a view covers is owned alike with any contents it reads alike. -/
theorem view_congr {sp : Space} {s : Shape} {e : EltTy} (v : Memref sig .scVector sp s e) {q : PosShare TreeShare}
    (f g : Buf (Elt F) (v.view.loc (thr d L))) (h : ∀ x, f (v.view.emb x) = g (v.view.emb x)) :
    (v.view.loc (thr d L) ↦[v.view.set]{q} f : sProp 𝕄) = (v.view.loc (thr d L) ↦[v.view.set]{q} g) := by
  refine pointsTo_congr fun i hi => ?_
  obtain ⟨x, _, rfl⟩ := Finset.mem_map.1 hi
  exact h x

/-- One write over a whole view leaves what was written. -/
theorem writes_whole_emb {sp : Space} {s : Shape} {e : EltTy} (v : View sig .scVector sp s e) (f : v.ty.Idx → Elt F v.ty.elt) (w : s.Idx → Elt F e) (x : s.Idx) :
    v.read (Val := Elt F) (v.writes (Elt F) f [⟨Rect.whole s, w⟩]) x = w x := by
  have := View.read_writes_cons_emb (Val := Elt F) v f (Rect.whole s) w [] x
  rwa [show (Rect.whole s).emb x = x from by
    refine funext fun a => Fin.ext ?_
    show 0 + 1 * (x a).val = (x a).val
    omega] at this

theorem blk_writes (o : Fin 2 → Nat) (h : ∀ a, o a + S32x1024.size a ≤ S32768x1024.size a) (f : Buf (Elt F) (oLoc d)) (w : S32x1024.Idx → F .f32) (x : S32x1024.Idx) :
    (blkV o h).view.writes (Elt F) f [⟨Rect.whole S32x1024, w⟩] ((blkV o h).view.emb x) = w x := by
  have e := writes_whole_emb (blkV o h).view f w x
  rw [View.read_apply] at e
  exact eq_of_heq ((cast_heq _ _).symm.trans (heq_of_eq e))

theorem row_writes (o : Fin 2 → Nat) (h : ∀ a, o a + S1x1024.size a ≤ S32768x1024.size a) (f : Buf (Elt F) (oLoc d)) (w : S1x1024.Idx → F .f32) (x : S1x1024.Idx) :
    (rowV o h).view.writes (Elt F) f [⟨Rect.whole S1x1024, w⟩] ((rowV o h).view.emb x) = w x := by
  have e := writes_whole_emb (rowV o h).view f w x
  rw [View.read_apply] at e
  exact eq_of_heq ((cast_heq _ _).symm.trans (heq_of_eq e))

theorem msk_writes (f : Buf (Elt F) (mLoc d)) (w : S1024.Idx → BitVec 32) (x : S1024.Idx) :
    (mskSl L).view.writes (Elt F) f [⟨Rect.whole S1024, w⟩] ((mskSl L).view.emb x) = w x := by
  have e := writes_whole_emb (mskSl L).view f w x
  rw [View.read_apply] at e
  exact eq_of_heq ((cast_heq _ _).symm.trans (heq_of_eq e))

end Cert.Proof.Pad

end
-- ==== Proof.Tile.lean ====
/- The task of one subcore: from its shares of the operands and its own rows and mask words, the program of the
   call's body ends with those rows holding the padded rows and those words the mask (`tile_body`). -/
module

public import proofs.«01_k».proof.Proof.Rows

@[expose] public section

set_option maxRecDepth 16384

noncomputable section

namespace Cert.Proof.Pad

open Cert.KernelIdeal Cert.KernelIdeal.Gen
open Idealize.ShloMosaic Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type} [FloatOps F]

local notation "𝕄" => MT nD τ sig (HIx 1) (Elt F) ℕ UU ℕ

variable (m : (ℓ : Loc nD τ sig) → Buf (Elt F) ℓ) (d : Dev nD) (L : grid0.Coords)

/-- A buffer of the subcore's own, held whole. -/
abbrev own0 (f : Buf (Elt F) ((thr d L).loc cc0_scratch0)) : sProp 𝕄 := aBat.view.loc (thr d L) ↦{fullShare} f
abbrev own1 (f : Buf (Elt F) ((thr d L).loc cc0_scratch1)) : sProp 𝕄 := aBlk.view.loc (thr d L) ↦{fullShare} f
abbrev own2 (f : Buf (Elt F) ((thr d L).loc cc0_scratch2)) : sProp 𝕄 := aRow.view.loc (thr d L) ↦{fullShare} f
abbrev own3 (f : Buf (Elt F) ((thr d L).loc cc0_scratch3)) : sProp 𝕄 := aZer.view.loc (thr d L) ↦{fullShare} f
abbrev own4 (f : Buf (Elt F) ((thr d L).loc cc0_scratch4)) : sProp 𝕄 := aMsk.view.loc (thr d L) ↦{fullShare} f

abbrev body (L : grid0.Coords) : Prog (TpuEff nD τ sig (Elt F) Λ₀ (.scVector (cV L) (jV L))) PUnit :=
  cc0__sc_call L srcV (Memref.isWhole_whole _) batV (Memref.isWhole_whole _) zerV (Memref.isWhole_whole _) outV (Memref.isWhole_whole _)
    mskV (Memref.isWhole_whole _) aBat (Memref.isWhole_whole _) aBlk (Memref.isWhole_whole _) aRow (Memref.isWhole_whole _)
    aZer (Memref.isWhole_whole _) aMsk (Memref.isWhole_whole _) cc0_scoped0 cc0_scoped1 cc0_scoped2 cc0_scoped3 cc0_scoped4 cc0_scoped5
    cc0_scoped6 cc0_scoped7 cc0_scoped8

section Bodies
@[irreducible] def tb1 (v30 v31 v32 : IVec S16 32) := k0_t1_body (F := F) L srcV (Memref.isWhole_whole _) batV (Memref.isWhole_whole _) zerV (Memref.isWhole_whole _) outV (Memref.isWhole_whole _)
    mskV (Memref.isWhole_whole _) aBat (Memref.isWhole_whole _) aBlk (Memref.isWhole_whole _) aRow (Memref.isWhole_whole _)
    aZer (Memref.isWhole_whole _) aMsk (Memref.isWhole_whole _) cc0_scoped0 cc0_scoped1 cc0_scoped2 cc0_scoped3 cc0_scoped4 cc0_scoped5
    cc0_scoped6 cc0_scoped7 cc0_scoped8 v30 v31 v32
@[irreducible] def tb2 (v29 : BitVec 32) (v30 v31 lt le : IVec S16 32) := k0_t2_body (F := F) L srcV (Memref.isWhole_whole _) batV (Memref.isWhole_whole _) zerV (Memref.isWhole_whole _) outV (Memref.isWhole_whole _)
    mskV (Memref.isWhole_whole _) aBat (Memref.isWhole_whole _) aBlk (Memref.isWhole_whole _) aRow (Memref.isWhole_whole _)
    aZer (Memref.isWhole_whole _) aMsk (Memref.isWhole_whole _) cc0_scoped0 cc0_scoped1 cc0_scoped2 cc0_scoped3 cc0_scoped4 cc0_scoped5
    cc0_scoped6 cc0_scoped7 cc0_scoped8 v29 v30 v31 lt le
@[irreducible] def tb3 (v37 v40 : BitVec 32) (hw : k0_chk1 L v37 v40) (v44 : BitVec 32) := k0_t3_body (F := F) L srcV (Memref.isWhole_whole _) batV (Memref.isWhole_whole _) zerV (Memref.isWhole_whole _) outV (Memref.isWhole_whole _)
    mskV (Memref.isWhole_whole _) aBat (Memref.isWhole_whole _) aBlk (Memref.isWhole_whole _) aRow (Memref.isWhole_whole _)
    aZer (Memref.isWhole_whole _) aMsk (Memref.isWhole_whole _) cc0_scoped0 cc0_scoped1 cc0_scoped2 cc0_scoped3 cc0_scoped4 cc0_scoped5
    cc0_scoped6 cc0_scoped7 cc0_scoped8 v37 v40 hw v44
@[irreducible] def tb4 (v37 v40 : BitVec 32) (hw : k0_chk1 L v37 v40) (t : Fin k0_t3_loop.trips) (h3 : k0_cond3 L v37 v40 t = 1#1) := k0_t4_body (F := F) L srcV (Memref.isWhole_whole _) batV (Memref.isWhole_whole _) zerV (Memref.isWhole_whole _) outV (Memref.isWhole_whole _)
    mskV (Memref.isWhole_whole _) aBat (Memref.isWhole_whole _) aBlk (Memref.isWhole_whole _) aRow (Memref.isWhole_whole _)
    aZer (Memref.isWhole_whole _) aMsk (Memref.isWhole_whole _) cc0_scoped0 cc0_scoped1 cc0_scoped2 cc0_scoped3 cc0_scoped4 cc0_scoped5
    cc0_scoped6 cc0_scoped7 cc0_scoped8 v37 v40 hw t h3
end Bodies

abbrev waited (O : CellTallies nD τ sig (HIx 1)) (W : Waits sig (HIx 1)) : sProp 𝕄 := iprop(∃ W', ⌜∀ p ∈ W', p ∈ W ∨ p.2 = none⌝ ∗ owes (thr d L) O W')

def inv1 (k : Nat) (acc : IVec S16 32 × IVec S16 32) : sProp 𝕄 :=
  iprop(⌜acc = (cnt (fun n => key (m (bLoc d)) n < (L 1).val) k, cnt (fun n => key (m (bLoc d)) n ≤ (L 1).val) k)⌝ ∗ own0 d L (m (bLoc d)))

/-- The 16 graph numbers a trip loads. -/
theorem load_keys (k : Fin k0_t1_loop.trips) (l : S16.Idx) :
    View.readAt (Elt F) aBat.view (Rect.unit (s := S16384) (k0_off1 k) S16.size (k0_off1_inb k)).toLoadRect (m (bLoc d)) l
      = BitVec.ofNat 32 (key (m (bLoc d)) (16 * k.val + (l 0).val)) := by
  have hk : k.val < 1024 := k.isLt
  have hl : (l 0).val < 16 := (l 0).isLt
  refine Eq.trans (b := m (bLoc d) (ix1 ⟨16 * k.val + (l 0).val, by omega⟩)) ?_ (word_eq (m (bLoc d)) ⟨16 * k.val + (l 0).val, by omega⟩)
  refine congrArg (m (bLoc d)) (funext fun a => Fin.ext ?_)
  match a with
  | 0 =>
    show k0_off1 k 0 + 1 * (l 0).val = 16 * k.val + (l 0).val
    rw [k0_off1_eq, Nat.one_mul]; rfl

theorem trip1 (hs : Sorted (m (bLoc d))) (k : Fin k0_t1_loop.trips) (acc : IVec S16 32 × IVec S16 32) :
    inv1 m d L k.val acc ⊢ wp frame (wpE (defs₀ (F := F)) 𝒱₀ (thr d L) none) Set.univ (tb1 L k0_pay6 k0_pay7 (k0_pay8 L) k acc) (inv1 m d L (k.val + 1)) := by
  unfold inv1 tb1 k0_t1_body
  obtain ⟨a1, a2⟩ := acc
  iintro ⟨%he, Hb⟩
  obtain ⟨rfl, rfl⟩ := Prod.mk.inj he
  sl_exec
  sl_step
  isplitr
  · ipureintro
    exact Prod.ext (pay1_step hs L k.val k.isLt _ (load_keys m d k)) (pay2_step hs L k.val k.isLt _ (load_keys m d k))
  · iassumption

/-- The mask words of the subcore. -/
abbrev mw (x : Nat) : BitVec 32 := if 1024 * (L 0).val + x < len (m (bLoc d)) (L 1).val then 1#32 else 0#32

def inv2 (k : Nat) (_ : BitVec 32) : sProp 𝕄 :=
  iprop(∃ f, ⌜∀ x : S1024.Idx, (x 0).val < 16 * k → f x = mw m d L (x 0).val⌝ ∗ own4 d L f)

theorem trip2 (lt le : IVec S16 32)
    (hlt : extractAt ![15] (k0_pay3 lt) inpos_S16_p15 = BitVec.ofNat 32 (start (m (bLoc d)) (L 1).val))
    (hle : extractAt ![15] (k0_pay4 le) inpos_S16_p15 = BitVec.ofNat 32 (stop (m (bLoc d)) (L 1).val))
    (k : Fin k0_t2_loop.trips) (acc : BitVec 32) :
    inv2 m d L k.val acc ⊢ wp frame (wpE (defs₀ (F := F)) 𝒱₀ (thr d L) none) Set.univ (tb2 L (p0w L) k0_pay6 k0_pay7 lt le k acc) (inv2 m d L (k.val + 1)) := by
  unfold inv2 tb2 k0_t2_body
  iintro ⟨%f, %hf, Hm⟩
  sl_exec
  sl_step
  iexists _
  isplitr
  rotate_left
  · iassumption
  · ipureintro
    intro x hx
    have hk : k.val < 64 := k.isLt
    have hx1 : (x 0).val < 1024 := (x 0).isLt
    by_cases h : (x 0).val < 16 * k.val
    · exact (View.read_writes_cons_miss_of_axis (Val := Elt F) aMsk.view f ⟨Rect.unit (s := S1024) (k0_off2 k) S16.size (k0_off2_inb k), k0_pay5 (p0w L) k0_pay6 k0_pay7 lt le k⟩ [] x 0
        (16 * k.val) 16 (by rw [Rect.off_unit, k0_off2_eq]; rfl) rfl rfl (.inl h)).trans (hf x h)
    · refine (View.read_writes_cons_hit_of_coords (Val := Elt F) aMsk.view f (Rect.unit (s := S1024) (k0_off2 k) S16.size (k0_off2_inb k)) (k0_pay5 (p0w L) k0_pay6 k0_pay7 lt le k) []
        (ix1 ⟨(x 0).val - 16 * k.val, by omega⟩) x fun a => ?_).trans ?_
      · match a with
        | 0 =>
          show (x 0).val = k0_off2 k 0 + 1 * ((x 0).val - 16 * k.val)
          have e : k0_off2 k 0 = 16 * k.val := by rw [k0_off2_eq]; rfl
          omega
      · rw [pay5_eq L lt le (start_le_stop _ _) (stop_le _ _) k hlt hle]
        show (if 1024 * (L 0).val + 16 * k.val + ((x 0).val - 16 * k.val) < len (m (bLoc d)) (L 1).val then 1#32 else 0#32) = _
        rw [show 1024 * (L 0).val + 16 * k.val + ((x 0).val - 16 * k.val) = 1024 * (L 0).val + (x 0).val by omega]

/-! ## The copies into the padded rows -/

theorem wait_mem {W W' : Waits sig (HIx 1)} (s : SemLoc sig) (h : ∀ p ∈ W', p ∈ W ∨ p.2 = none) :
    ∀ p ∈ insert (s, (none : HIx 1)) W', p ∈ W ∨ p.2 = none := by
  intro p hp
  rcases Finset.mem_insert.1 hp with rfl | hp
  · exact .inr rfl
  · exact h p hp

/-- What a trip of the third loop uses besides its chunk, and has again at its end. -/
abbrev res (O : CellTallies nD τ sig (HIx 1)) (W : Waits sig (HIx 1)) : sProp 𝕄 :=
  iprop(Transfers.MayWaits (thr d L) (none : HIx 1) O ∗ (srcV.view.loc (thr d L) ↦{shr (wL L)} m (sLoc d)) ∗ (∃ f, own1 d L f) ∗ (∃ f, own2 d L f)
    ∗ own3 d L (ZR d)
    ∗ (semVal (thr d L, SemLoc.dma cc0_scoped3.sem) 0 ∗ semVal (thr d L, SemLoc.dma cc0_scoped4.sem) 0 ∗ semVal (thr d L, SemLoc.dma cc0_scoped5.sem) 0
      ∗ semVal (thr d L, SemLoc.dma cc0_scoped6.sem) 0 ∗ semVal (thr d L, SemLoc.dma cc0_scoped7.sem) 0 ∗ semVal (thr d L, SemLoc.dma cc0_scoped8.sem) 0)
    ∗ waited d L O W)

section Chunk

variable (O : CellTallies nD τ sig (HIx 1)) (W : Waits sig (HIx 1))

/-- Where the subcore's graph starts and stops, as words and as numbers. -/
abbrev aN : Nat := start (m (bLoc d)) (L 1).val
abbrev bN : Nat := stop (m (bLoc d)) (L 1).val
abbrev aW : BitVec 32 := BitVec.ofNat 32 (aN m d L)
abbrev bW : BitVec 32 := BitVec.ofNat 32 (bN m d L)
abbrev nN : Nat := nv (aN m d L) (bN m d L) (L 0).val
theorem hw : k0_chk1 L (aW m d L) (bW m d L) := chk1 L (start_le_stop _ _) (stop_le _ _)

@[irreducible] def tb3' (t : Fin k0_t3_loop.trips) (acc : BitVec 32) := tb3 (F := F) L (aW m d L) (bW m d L) (hw m d L) (availw L (aW m d L) (bW m d L)) t acc

/-- A trip of the third loop as a chunk's number. -/
abbrev tc (t : Fin k0_t3_loop.trips) : Fin 32 := Fin.cast (show k0_t3_loop.trips = 32 from rfl) t

theorem own_first (t : Fin k0_t3_loop.trips) : 2048 * (L 1).val + 1024 * (L 0).val + 32 * t.val = 32 * (own (wL L) (tc t)).val := by
  show _ = 32 * (32 * (2 * (L 1).val + (L 0).val) + t.val); omega

/-- The padded rows of the subcore, row by row: row `32 * t + r` of its 1024. -/
theorem TG_data {t r : Nat} {i : S32768x1024.Idx} (hi : (i 0).val = 2048 * (L 1).val + 1024 * (L 0).val + 32 * t + r) (h : 32 * t + r < nN m d L)
    {j : S16384x1024.Idx} (hj0 : (j 0).val = aN m d L + 1024 * (L 0).val + 32 * t + r) (hj1 : (j 1).val = (i 1).val) : TG m d i = m (sLoc d) j := by
  have h' : 32 * t + r < min 1024 (bN m d L - aN m d L - 1024 * (L 0).val) := h
  have hc : (L 0).val < 2 := (L 0).isLt
  refine padded_row _ _ _ (b := (L 1).val) (p := 1024 * (L 0).val + 32 * t + r) (by omega) (by omega) ?_ (by show _ = aN m d L + _; omega) hj1
  show _ < bN m d L - aN m d L
  omega

theorem TG_zero {t r : Nat} {i : S32768x1024.Idx} (hi : (i 0).val = 2048 * (L 1).val + 1024 * (L 0).val + 32 * t + r) (hr : 32 * t + r < 1024)
    (h : nN m d L ≤ 32 * t + r) : TG m d i = (zval : F .f32) := by
  have h' : min 1024 (bN m d L - aN m d L - 1024 * (L 0).val) ≤ 32 * t + r := h
  have hc : (L 0).val < 2 := (L 0).isLt
  refine padded_zero _ _ _ (b := (L 1).val) (p := 1024 * (L 0).val + 32 * t + r) (by omega) (by omega) ?_
  show bN m d L - aN m d L ≤ _
  omega

theorem off5_zero (t : Fin k0_t3_loop.trips) : k0_off5 L t 0 = 2048 * (L 1).val + 1024 * (L 0).val + 32 * t.val := by rw [k0_off5_eq]; rfl
theorem off5_one (t : Fin k0_t3_loop.trips) : k0_off5 L t 1 = 0 := by rw [k0_off5_eq]; rfl
theorem off6_zero (t : Fin k0_t3_loop.trips) : k0_off6 L t 0 = 2048 * (L 1).val + 1024 * (L 0).val + 32 * t.val := by rw [k0_off6_eq]; rfl
theorem off6_one (t : Fin k0_t3_loop.trips) : k0_off6 L t 1 = 0 := by rw [k0_off6_eq]; rfl
theorem off7_zero (t : Fin k0_t3_loop.trips) : k0_off7 L t 0 = 2048 * (L 1).val + 1024 * (L 0).val + 32 * t.val := by rw [k0_off7_eq]; rfl
theorem off7_one (t : Fin k0_t3_loop.trips) : k0_off7 L t 1 = 0 := by rw [k0_off7_eq]; rfl
theorem off9_zero (t : Fin k0_t3_loop.trips) (r : Fin k0_t4_loop.trips) : k0_off9 L t r 0 = 2048 * (L 1).val + 1024 * (L 0).val + 32 * t.val + r.val := by rw [k0_off9_eq]; rfl
theorem off9_one (t : Fin k0_t3_loop.trips) (r : Fin k0_t4_loop.trips) : k0_off9 L t r 1 = 0 := by rw [k0_off9_eq]; rfl

/-- A chunk all of whose rows hold data: 32 rows are copied in and out. -/
theorem chunkA (t : Fin k0_t3_loop.trips) (h : 32 * t.val + 32 ≤ nN m d L) (f : Buf (Elt F) (oLoc d)) (acc : BitVec 32) :
    iprop(res m d L O W ∗ oPts d (own (wL L) (tc t)) f)
      ⊢ wp frame (wpE (defs₀ (F := F)) 𝒱₀ (thr d L) none) Set.univ (tb3' m d L t acc) fun _ => iprop(res m d L O W ∗ oPts d (own (wL L) (tc t)) (TG m d)) := by
  have ha : aN m d L ≤ bN m d L := start_le_stop _ _
  have hb : bN m d L ≤ 16384 := stop_le _ _
  have h1 : k0_cond1 L (aW m d L) (bW m d L) t = 1#1 := (cond1_iff L ha hb t).2 h
  have h2 : ¬ Scalar.cmpi .ne (Scalar.extui (Scalar.cmpi .sle (Scalar.subi (availw L (aW m d L) (bW m d L)) (Scalar.muli (Scf.iv 0#32 1#32 t.val) 32#32)) 0#32)) 0#32 = 1#1 :=
    fun e => by have : nN m d L ≤ 32 * t.val := (cond2_iff L ha hb t).1 e; omega
  have h3 : ¬ k0_cond3 L (aW m d L) (bW m d L) t = 1#1 := fun e => by have : 32 * t.val < nN m d L ∧ nN m d L < 32 * t.val + 32 := (cond3_iff L ha hb t).1 e; omega
  have hc5 : k0_off5 L t 0 = 32 * (own (wL L) (tc t)).val := by rw [k0_off5_eq]; exact own_first L t
  have hz5 : k0_off5 L t 1 = 0 := by rw [k0_off5_eq]; rfl
  unfold tb3' tb3 k0_t3_body
  rw [oPts_eq d L (k0_off5 L t) (k0_off5_inb L t) (own (wL L) (tc t)) hc5 hz5 f, oPts_eq d L (k0_off5 L t) (k0_off5_inb L t) (own (wL L) (tc t)) hc5 hz5 (TG m d)]
  iintro ⟨⟨#Hmw, Hs, ⟨%f1, H1⟩, ⟨%f2, H2⟩, H3, ⟨Hc3, Hc4, Hc5, Hc6, Hc7, Hc8⟩, %W', %hW', HO⟩, Ho⟩
  rw [dif_pos h1]
  sl_exec
  sl_step
  isplitr [Ho]
  · iframe Hmw Hs H3 Hc3 Hc4 Hc5 Hc6 Hc7 Hc8
    isplitl [H1]
    · iexists _; iexact H1
    isplitl [H2]
    · iexists _; iexact H2
    iexists _
    isplitr
    rotate_left
    · iexact HO
    · ipureintro
      exact wait_mem _ (wait_mem _ hW')
  · iapply (Entails.of_eq (view_congr d L (blkV (k0_off5 L t) (k0_off5_inb L t)) _ (TG m d) fun x => ?_)) $$ Ho
    rw [blk_writes d (k0_off5 L t) (k0_off5_inb L t) f]
    refine Eq.trans ?_ (TG_data m d L (t := t.val) (r := (x 0).val)
      (j := (srcV.slice (Rect.unit (s := S16384x1024) (k0_off4 L (aW m d L) t) S32x1024.size (k0_off4_inb L (aW m d L) (bW m d L) (hw m d L) t h1)) (fun _ => rfl)).view.emb x) ?_ ?_ ?_ ?_).symm
    · unfold chunkA.sl.dma0_1 chunkA.sl.dma0
      rw [ReadAs.apply_same, ReadAs.apply_same]
      rw [View.write_whole_univ, View.read_whole]; rfl
    · show k0_off5 L t 0 + 1 * (x 0).val = _
      rw [off5_zero]; omega
    · have hx : (x 0).val < 32 := (x 0).isLt
      omega
    · show k0_off4 L (aW m d L) t 0 + 1 * (x 0).val = _
      have e : k0_off4 L (aW m d L) t 0 = aN m d L + 1024 * (L 0).val + 32 * t.val := by rw [off4_eq L (ha.trans hb)]; rfl
      omega
    · show k0_off4 L (aW m d L) t 1 + 1 * (x 1).val = k0_off5 L t 1 + 1 * (x 1).val
      have e : k0_off4 L (aW m d L) t 1 = 0 := by rw [off4_eq L (ha.trans hb)]; rfl
      rw [e, off5_one]

/-- A chunk none of whose rows hold data: 32 rows of zeros are copied out. -/
theorem chunkB (t : Fin k0_t3_loop.trips) (h : nN m d L ≤ 32 * t.val) (f : Buf (Elt F) (oLoc d)) (acc : BitVec 32) :
    iprop(res m d L O W ∗ oPts d (own (wL L) (tc t)) f)
      ⊢ wp frame (wpE (defs₀ (F := F)) 𝒱₀ (thr d L) none) Set.univ (tb3' m d L t acc) fun _ => iprop(res m d L O W ∗ oPts d (own (wL L) (tc t)) (TG m d)) := by
  have ha : aN m d L ≤ bN m d L := start_le_stop _ _
  have hb : bN m d L ≤ 16384 := stop_le _ _
  have ht : t.val < 32 := t.isLt
  have h1 : ¬ k0_cond1 L (aW m d L) (bW m d L) t = 1#1 := fun e => by have : 32 * t.val + 32 ≤ nN m d L := (cond1_iff L ha hb t).1 e; omega
  have h2 : Scalar.cmpi .ne (Scalar.extui (Scalar.cmpi .sle (Scalar.subi (availw L (aW m d L) (bW m d L)) (Scalar.muli (Scf.iv 0#32 1#32 t.val) 32#32)) 0#32)) 0#32 = 1#1 :=
    (cond2_iff L ha hb t).2 h
  have h3 : ¬ k0_cond3 L (aW m d L) (bW m d L) t = 1#1 := fun e => by have : 32 * t.val < nN m d L ∧ nN m d L < 32 * t.val + 32 := (cond3_iff L ha hb t).1 e; omega
  have hc6 : k0_off6 L t 0 = 32 * (own (wL L) (tc t)).val := (off6_zero L t).trans (own_first L t)
  unfold tb3' tb3 k0_t3_body
  rw [oPts_eq d L (k0_off6 L t) (k0_off6_inb L t) (own (wL L) (tc t)) hc6 (off6_one L t) f, oPts_eq d L (k0_off6 L t) (k0_off6_inb L t) (own (wL L) (tc t)) hc6 (off6_one L t) (TG m d)]
  iintro ⟨⟨#Hmw, Hs, ⟨%f1, H1⟩, ⟨%f2, H2⟩, H3, ⟨Hc3, Hc4, Hc5, Hc6, Hc7, Hc8⟩, %W', %hW', HO⟩, Ho⟩
  rw [dif_neg h1]
  sl_exec
  sl_step
  isplitr [Ho]
  · iframe Hmw Hs H3 Hc3 Hc4 Hc5 Hc6 Hc7 Hc8
    isplitl [H1]
    · iexists _; iexact H1
    isplitl [H2]
    · iexists _; iexact H2
    iexists _
    isplitr
    rotate_left
    · iexact HO
    · ipureintro
      exact wait_mem _ hW'
  · iapply (Entails.of_eq (view_congr d L (blkV (k0_off6 L t) (k0_off6_inb L t)) _ (TG m d) fun x => ?_)) $$ Ho
    rw [blk_writes d (k0_off6 L t) (k0_off6_inb L t) f]
    have hx : (x 0).val < 32 := (x 0).isLt
    refine Eq.trans ?_ (TG_zero m d L (t := t.val) (r := (x 0).val) ?_ (by omega) (by omega)).symm
    · rfl
    · show k0_off6 L t 0 + 1 * (x 0).val = _
      rw [off6_zero]; omega

/-! ### The chunk in which the data ends -/

theorem mem_oSet {n : Fin 1024} {i : S32768x1024.Idx} : i ∈ oSet n ↔ 32 * n.val ≤ (i 0).val ∧ (i 0).val < 32 * n.val + 32 := by
  have hin : ∀ a, (![32 * n.val, 0] : Fin 2 → Nat) a + S32x1024.size a ≤ S32768x1024.size a :=
    Rect.inb₂ (show 32 * n.val + 32 ≤ 32768 by omega) (show 0 + 1024 ≤ 1024 by omega)
  unfold oSet
  rw [← oRect_eq ![32 * n.val, 0] hin n rfl rfl, Rect.mem_set_unit]
  have h1 : (i 1).val < 1024 := (i 1).isLt
  constructor
  · intro h; exact h 0
  · intro h a
    match a with
    | 0 => exact h
    | 1 => exact ⟨Nat.zero_le _, by show (i 1).val < 0 + 1024; omega⟩

theorem mem_row {t : Fin k0_t3_loop.trips} {r : Fin k0_t4_loop.trips} {i : S32768x1024.Idx} :
    i ∈ (rowV (k0_off9 L t r) (k0_off9_inb L t r)).view.set ↔ (i 0).val = 2048 * (L 1).val + 1024 * (L 0).val + 32 * t.val + r.val := by
  rw [show (rowV (k0_off9 L t r) (k0_off9_inb L t r)).view.set = (Rect.unit (s := S32768x1024) (k0_off9 L t r) S1x1024.size (k0_off9_inb L t r)).set from set_out _,
    Rect.mem_set_unit]
  have h1 : (i 1).val < 1024 := (i 1).isLt
  have e0 := off9_zero L t r
  have e1 := off9_one L t r
  constructor
  · intro h
    have := h 0
    have hs : S1x1024.size 0 = 1 := rfl
    omega
  · intro h a
    match a with
    | 0 => show k0_off9 L t r 0 ≤ _ ∧ _ < k0_off9 L t r 0 + 1; omega
    | 1 => show k0_off9 L t r 1 ≤ _ ∧ _ < k0_off9 L t r 1 + 1024; omega

/-- The first `k` rows of a chunk as they are to be, zeros in the others. -/
def mixR (k : Nat) : Buf (Elt F) (oLoc d) := fun i => if (i 0).val % 32 < k then TG m d i else (zval : F .f32)

def inv4 (t : Fin k0_t3_loop.trips) (k : Nat) (_ : BitVec 32) : sProp 𝕄 :=
  iprop(Transfers.MayWaits (thr d L) (none : HIx 1) O ∗ (srcV.view.loc (thr d L) ↦{shr (wL L)} m (sLoc d)) ∗ (∃ f, own2 d L f)
    ∗ semVal (thr d L, SemLoc.dma cc0_scoped7.sem) 0 ∗ semVal (thr d L, SemLoc.dma cc0_scoped8.sem) 0
    ∗ waited d L O W ∗ oPts d (own (wL L) (tc t)) (mixR m d k))

theorem trip4 (t : Fin k0_t3_loop.trips) (h3 : k0_cond3 L (aW m d L) (bW m d L) t = 1#1) (r : Fin k0_t4_loop.trips) (acc : BitVec 32) :
    inv4 m d L O W t r.val acc ⊢ wp frame (wpE (defs₀ (F := F)) 𝒱₀ (thr d L) none) Set.univ (tb4 L (aW m d L) (bW m d L) (hw m d L) t h3 r acc) (inv4 m d L O W t (r.val + 1)) := by
  have ha : aN m d L ≤ bN m d L := start_le_stop _ _
  have hb : bN m d L ≤ 16384 := stop_le _ _
  have ht : t.val < 32 := t.isLt
  have hr : r.val < 32 := r.isLt
  have hn := own_first L t
  unfold inv4 tb4 k0_t4_body
  rcases Nat.lt_or_ge (32 * t.val + r.val) (nN m d L) with h | h
  · have h4 : k0_cond4 L (aW m d L) (bW m d L) t r = 1#1 := (cond4_iff L ha hb t r).2 h
    have hsub : (rowV (k0_off9 L t r) (k0_off9_inb L t r)).view.set ⊆ oSet (own (wL L) (tc t)) := fun i hi => by
      have := (mem_row L).1 hi
      exact mem_oSet.2 (by omega)
    iintro ⟨#Hmw, Hs, ⟨%f2, H2⟩, Hc7, Hc8, ⟨%W', %hW', HO⟩, Ho⟩
    ihave ⟨Hr, Hrest⟩ := ((pointsTo_split_subset (ℓ := oLoc d) (q := fullShare) (f := mixR m d r.val) hsub).1 : oPts d (own (wL L) (tc t)) (mixR m d r.val) ⊢ _) $$ Ho
    ihave Hr' := (Entails.of_eq (show (oLoc d ↦[(rowV (k0_off9 L t r) (k0_off9_inb L t r)).view.set]{fullShare} mixR m d r.val : sProp 𝕄)
      = ((rowV (k0_off9 L t r) (k0_off9_inb L t r)).view.loc (thr d L) ↦[(rowV (k0_off9 L t r) (k0_off9_inb L t r)).view.set]{fullShare} mixR m d r.val) from rfl)) $$ Hr
    rw [dif_pos h4]
    sl_exec
    sl_step
    iframe Hmw Hs Hc7 Hc8
    isplitl [H2]
    · iexists _; iexact H2
    isplitl [HO]
    · iexists _
      isplitr
      rotate_left
      · iexact HO
      · ipureintro
        exact wait_mem _ (wait_mem _ hW')
    have e1 : ((rowV (k0_off9 L t r) (k0_off9_inb L t r)).view.loc (thr d L) ↦[(rowV (k0_off9 L t r) (k0_off9_inb L t r)).view.set]{fullShare}
          (rowV (k0_off9 L t r) (k0_off9_inb L t r)).view.writes (Elt F) (mixR m d r.val) [⟨Rect.whole S1x1024, trip4.sl.dma0_1 m d L t h3 r h4 f2⟩] : sProp 𝕄)
        = (oLoc d ↦[(rowV (k0_off9 L t r) (k0_off9_inb L t r)).view.set]{fullShare} mixR m d (r.val + 1)) := by
      refine view_congr d L (rowV (k0_off9 L t r) (k0_off9_inb L t r)) _ (mixR m d (r.val + 1)) fun x => ?_
      rw [row_writes d (k0_off9 L t r) (k0_off9_inb L t r)]
      have hx : (x 0).val = 0 := by have : (x 0).val < 1 := (x 0).isLt; omega
      have e9 : (((rowV (k0_off9 L t r) (k0_off9_inb L t r)).view.emb x) 0).val = 2048 * (L 1).val + 1024 * (L 0).val + 32 * t.val + r.val := by
        show k0_off9 L t r 0 + 1 * (x 0).val = _
        rw [off9_zero]; omega
      refine Eq.trans ?_ (if_pos (show (((rowV (k0_off9 L t r) (k0_off9_inb L t r)).view.emb x) 0).val % 32 < r.val + 1 by rw [e9]; omega)).symm
      refine Eq.trans ?_ (TG_data m d L (t := t.val) (r := r.val)
        (j := (srcV.slice (Rect.unit (s := S16384x1024) (k0_off8 L (aW m d L) t r) S1x1024.size (k0_off8_inb L (aW m d L) (bW m d L) (hw m d L) t r h3 h4)) (fun _ => rfl)).view.emb x) e9 h ?_ ?_).symm
      · unfold trip4.sl.dma0_1
        refine (View.read_writes_cons_emb (Val := Elt F) aRow.view f2 (Rect.unit (s := S32x1024) ![0, 0] S1x1024.size inb_S32x1024_S1x1024_0_0) (trip4.sl.dma0 m d L t h3 r h4) [] x).trans ?_
        rfl
      · show k0_off8 L (aW m d L) t r 0 + 1 * (x 0).val = _
        have e : k0_off8 L (aW m d L) t r 0 = aN m d L + 1024 * (L 0).val + 32 * t.val + r.val := by rw [off8_eq L (ha.trans hb)]; rfl
        omega
      · show k0_off8 L (aW m d L) t r 1 + 1 * (x 1).val = k0_off9 L t r 1 + 1 * (x 1).val
        have e : k0_off8 L (aW m d L) t r 1 = 0 := by rw [off8_eq L (ha.trans hb)]; rfl
        rw [e, off9_one]
    have e2 : (oLoc d ↦[oSet (own (wL L) (tc t)) \ (rowV (k0_off9 L t r) (k0_off9_inb L t r)).view.set]{fullShare} mixR m d r.val : sProp 𝕄)
        = (oLoc d ↦[oSet (own (wL L) (tc t)) \ (rowV (k0_off9 L t r) (k0_off9_inb L t r)).view.set]{fullShare} mixR m d (r.val + 1)) := by
      refine pointsTo_congr fun i hi => ?_
      obtain ⟨hi1, hi2⟩ := Finset.mem_sdiff.1 hi
      have hi' := mem_oSet.1 hi1
      have hne := fun e => hi2 ((mem_row L).2 e)
      unfold mixR
      rcases Nat.lt_or_ge ((i 0).val % 32) r.val with hlt | hge
      · rw [if_pos hlt, if_pos (by omega)]
      · have hn' : ¬ (i 0).val % 32 < r.val + 1 := by
          intro hk
          apply hne
          omega
        rw [if_neg (by omega), if_neg hn']
    ihave Ha := (Entails.of_eq e1) $$ Hr'
    ihave Hb := (Entails.of_eq e2) $$ Hrest
    iapply ((pointsTo_split_subset (ℓ := oLoc d) (q := fullShare) (f := mixR m d (r.val + 1)) hsub).2 : _ ⊢ oPts d (own (wL L) (tc t)) (mixR m d (r.val + 1)))
    isplitl [Ha] <;> iassumption
  · have h4 : ¬ k0_cond4 L (aW m d L) (bW m d L) t r = 1#1 := fun h4 => Nat.not_lt.2 h ((cond4_iff L ha hb t r).1 h4)
    have e : (oPts d (own (wL L) (tc t)) (mixR m d r.val) : sProp 𝕄) = oPts d (own (wL L) (tc t)) (mixR m d (r.val + 1)) := by
      refine pointsTo_congr fun i hi => ?_
      have hi' := mem_oSet.1 hi
      unfold mixR
      by_cases hlt : (i 0).val % 32 < r.val
      · rw [if_pos hlt, if_pos (by omega)]
      · by_cases heq : (i 0).val % 32 = r.val
        · rw [if_neg hlt, if_pos (by omega)]
          exact (TG_zero m d L (t := t.val) (r := r.val) (by omega) (by omega) h).symm
        · rw [if_neg hlt, if_neg (by omega)]
    rw [e]
    iintro H
    rw [dif_neg h4]
    sl_exec
    sl_step
    iexact H

theorem mix_zero : mixR m d 0 = fun _ => (zval : F .f32) := funext fun _ => if_neg (Nat.not_lt_zero _)
theorem mix_all : mixR m d 32 = TG m d := funext fun _ => if_pos (Nat.mod_lt _ (by decide))

/-- The chunk in which the data ends: zeros are copied out, then the rows that hold data one by one. -/
theorem chunkC (t : Fin k0_t3_loop.trips) (h : 32 * t.val < nN m d L ∧ nN m d L < 32 * t.val + 32) (f : Buf (Elt F) (oLoc d)) (acc : BitVec 32) :
    iprop(res m d L O W ∗ oPts d (own (wL L) (tc t)) f)
      ⊢ wp frame (wpE (defs₀ (F := F)) 𝒱₀ (thr d L) none) Set.univ (tb3' m d L t acc) fun _ => iprop(res m d L O W ∗ oPts d (own (wL L) (tc t)) (TG m d)) := by
  have ha : aN m d L ≤ bN m d L := start_le_stop _ _
  have hb : bN m d L ≤ 16384 := stop_le _ _
  have ht : t.val < 32 := t.isLt
  have h1 : ¬ k0_cond1 L (aW m d L) (bW m d L) t = 1#1 := fun e => by have : 32 * t.val + 32 ≤ nN m d L := (cond1_iff L ha hb t).1 e; omega
  have h2 : ¬ Scalar.cmpi .ne (Scalar.extui (Scalar.cmpi .sle (Scalar.subi (availw L (aW m d L) (bW m d L)) (Scalar.muli (Scf.iv 0#32 1#32 t.val) 32#32)) 0#32)) 0#32 = 1#1 :=
    fun e => by have : nN m d L ≤ 32 * t.val := (cond2_iff L ha hb t).1 e; omega
  have h3 : k0_cond3 L (aW m d L) (bW m d L) t = 1#1 := (cond3_iff L ha hb t).2 h
  have hc7 : k0_off7 L t 0 = 32 * (own (wL L) (tc t)).val := (off7_zero L t).trans (own_first L t)
  have eZ (f : Buf (Elt F) (oLoc d)) (g : S32x1024.Idx → F .f32) (hg : ∀ x, g x = (zval : F .f32)) :
      ((blkV (k0_off7 L t) (k0_off7_inb L t)).view.loc (thr d L) ↦[(blkV (k0_off7 L t) (k0_off7_inb L t)).view.set]{fullShare}
        (blkV (k0_off7 L t) (k0_off7_inb L t)).view.writes (Elt F) f [⟨Rect.whole S32x1024, g⟩] : sProp 𝕄) = oPts d (own (wL L) (tc t)) (mixR m d 0) := by
    rw [oPts_eq d L (k0_off7 L t) (k0_off7_inb L t) (own (wL L) (tc t)) hc7 (off7_one L t)]
    refine view_congr d L (blkV (k0_off7 L t) (k0_off7_inb L t)) _ (mixR m d 0) fun x => ?_
    rw [blk_writes d (k0_off7 L t) (k0_off7_inb L t) f, mix_zero]
    exact hg x
  unfold tb3' tb3 k0_t3_body
  rw [oPts_eq d L (k0_off7 L t) (k0_off7_inb L t) (own (wL L) (tc t)) hc7 (off7_one L t) f, ← mix_all m d]
  iintro ⟨⟨#Hmw, Hs, ⟨%f1, H1⟩, ⟨%f2, H2⟩, H3, ⟨Hc3, Hc4, Hc5, Hc6, Hc7, Hc8⟩, %W', %hW', HO⟩, Ho⟩
  rw [dif_neg h1]
  sl_exec
  ihave Ho' := (Entails.of_eq (eZ ((blkV (k0_off7 L t) (k0_off7_inb L t)).view.junk (Val := Elt F)) (chunkC.sl.dma0 d) fun _ => rfl)) $$ Ho
  sl_for (inv4 m d L O W t) $$ [Hs H2 Hc7 Hc8 HO Ho']
  case region =>
    intro r acc'
    have h := trip4 m d L O W t h3 r acc'
    unfold tb4 at h
    unfold chunkC.sl.prog.body_1
    with_reducible assumption
  · unfold inv4
    iframe Hmw Hs Hc7 Hc8 Ho'
    isplitl [H2]
    · iexists _; iexact H2
    iexists _
    isplitr
    rotate_left
    · iexact HO
    · ipureintro
      exact wait_mem _ hW'
  iintro %acc' HI
  unfold inv4
  icases HI with ⟨-, Hs, H2, Hc7, Hc8, HO, Ho⟩
  sl_exec
  sl_step
  iframe Hmw Hs H2 H3 Hc3 Hc4 Hc5 Hc6 Hc7 Hc8 HO
  isplitl [H1]
  · iexists _; iexact H1
  iexact Ho

/-- A trip of the third loop makes its chunk what it is to be. -/
theorem chunk (t : Fin k0_t3_loop.trips) (f : Buf (Elt F) (oLoc d)) (acc : BitVec 32) :
    iprop(res m d L O W ∗ oPts d (own (wL L) (tc t)) f)
      ⊢ wp frame (wpE (defs₀ (F := F)) 𝒱₀ (thr d L) none) Set.univ (tb3' m d L t acc) fun _ => iprop(res m d L O W ∗ oPts d (own (wL L) (tc t)) (TG m d)) := by
  have A := fun h => chunkA m d L O W t h f acc
  have B := fun h => chunkB m d L O W t h f acc
  have C := fun h => chunkC m d L O W t h f acc
  generalize nN m d L = n at A B C
  rcases Nat.lt_or_ge n (32 * t.val + 32) with h | h
  · rcases Nat.lt_or_ge (32 * t.val) n with h' | h'
    · exact C ⟨h', h⟩
    · exact B h'
  · exact A h

/-- Before trip `k` of the third loop the first `k` chunks are done. -/
abbrev chs (k : Nat) : sProp 𝕄 := bigSep Finset.univ fun j : Fin 32 => oPts d (own (wL L) j) (if j.val < k then TG m d else m (oLoc d))

def inv3 (k : Nat) (_ : BitVec 32) : sProp 𝕄 := iprop(res m d L O W ∗ chs m d L k)

theorem trip3 (t : Fin k0_t3_loop.trips) (acc : BitVec 32) :
    inv3 m d L O W t.val acc ⊢ wp frame (wpE (defs₀ (F := F)) 𝒱₀ (thr d L) none) Set.univ (tb3' m d L t acc) (inv3 m d L O W (t.val + 1)) := by
  have e1 : chs m d L t.val = iprop(oPts d (own (wL L) (tc t)) (m (oLoc d))
      ∗ bigSep (Finset.univ.erase (tc t)) fun j : Fin 32 => oPts d (own (wL L) j) (if j.val < t.val then TG m d else m (oLoc d))) := by
    unfold chs
    rw [SparseCore.bigSep_erase' (Finset.mem_univ (tc t)), if_neg (show ¬ (tc t).val < t.val from Nat.lt_irrefl _)]
  have e2 : chs m d L (t.val + 1) = iprop(oPts d (own (wL L) (tc t)) (TG m d)
      ∗ bigSep (Finset.univ.erase (tc t)) fun j : Fin 32 => oPts d (own (wL L) j) (if j.val < t.val then TG m d else m (oLoc d))) := by
    unfold chs
    rw [SparseCore.bigSep_erase' (Finset.mem_univ (tc t)), if_pos (show (tc t).val < t.val + 1 from Nat.lt_succ_self _)]
    refine congrArg (fun X : sProp 𝕄 => iprop(oPts d (own (wL L) (tc t)) (TG m d) ∗ X)) (bigSep_congr fun j hj => ?_)
    have hne : j.val ≠ t.val := fun e => (Finset.mem_erase.1 hj).1 (Fin.ext e)
    rcases Nat.lt_or_ge j.val t.val with hl | hg
    · rw [if_pos hl, if_pos (by omega)]
    · rw [if_neg (by omega), if_neg (by omega)]
  unfold inv3
  rw [e1]
  simp only [e2]
  have hc := chunk m d L O W t (m (oLoc d)) acc
  generalize (bigSep (Finset.univ.erase (tc t)) fun j : Fin 32 => oPts d (own (wL L) j) (if j.val < t.val then TG m d else m (oLoc d)) : sProp 𝕄) = R
  have h1 : iprop(res m d L O W ∗ oPts d (own (wL L) (tc t)) (m (oLoc d)) ∗ R) ⊢ iprop((res m d L O W ∗ oPts d (own (wL L) (tc t)) (m (oLoc d))) ∗ R) := by
    iintro ⟨Hr, Ho, Hrest⟩
    isplitr [Hrest]
    · isplitl [Hr] <;> iassumption
    · iassumption
  have h2 : iprop((res m d L O W ∗ oPts d (own (wL L) (tc t)) (TG m d)) ∗ R) ⊢ iprop(res m d L O W ∗ oPts d (own (wL L) (tc t)) (TG m d) ∗ R) := by
    iintro ⟨⟨Hr, Ho⟩, Hrest⟩
    isplitl [Hr]
    · iassumption
    · isplitl [Ho] <;> iassumption
  exact h1.trans ((sep_mono_left hc).trans ((wp_frame_r _ _ _).trans (wp_mono _ _ _ fun _ => h2)))

theorem chs_zero : chs m d L 0 = oAll d (wL L) (m (oLoc d)) := bigSep_congr fun j _ => by rw [if_neg (Nat.not_lt_zero _)]
theorem chs_all : chs m d L 32 = oAll d (wL L) (TG m d) := bigSep_congr fun j _ => by rw [if_pos j.isLt]

end Chunk

/-! ## The subcore's run -/

theorem trip2' (lt le : IVec S16 32) (v29 : BitVec 32) (h29 : v29 = p0w L)
    (hlt : extractAt ![15] (k0_pay3 lt) inpos_S16_p15 = aW m d L) (hle : extractAt ![15] (k0_pay4 le) inpos_S16_p15 = bW m d L)
    (k : Fin k0_t2_loop.trips) (acc : BitVec 32) :
    inv2 m d L k.val acc ⊢ wp frame (wpE (defs₀ (F := F)) 𝒱₀ (thr d L) none) Set.univ (tb2 L v29 k0_pay6 k0_pay7 lt le k acc) (inv2 m d L (k.val + 1)) := by
  subst h29
  exact trip2 m d L lt le hlt hle k acc

theorem trip3' (O : CellTallies nD τ sig (HIx 1)) (W : Waits sig (HIx 1)) (v37 v40 v44 : BitVec 32) (hw' : k0_chk1 L v37 v40)
    (h37 : v37 = aW m d L) (h40 : v40 = bW m d L) (h44 : v44 = availw L v37 v40) (t : Fin k0_t3_loop.trips) (acc : BitVec 32) :
    inv3 m d L O W t.val acc ⊢ wp frame (wpE (defs₀ (F := F)) 𝒱₀ (thr d L) none) Set.univ (tb3 L v37 v40 hw' v44 t acc) (inv3 m d L O W (t.val + 1)) := by
  subst h44 h37 h40
  have h := trip3 m d L O W t acc
  unfold tb3' at h
  exact h

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileIn m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body L)
          fun _ => iprop(tileOut m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hs : Sorted (m (bLoc d)) := hpre d
  unfold body
  simp only [cc0__sc_call_eq_skeleton]
  unfold cc0__sc_call_skel
  simp only [k0_part1_eq_skeleton]
  unfold k0_part1_skel
  rw [(K (F := F)).scopedBufs_V hF d (cV L) (jV L), SparseCore.Cfg.scopedSems0_V (Val := Elt F) d (cV L) (jV L), ownSems0_V, ownBufs_V]
  iintro ⟨#Hlv, -, ⟨Hs, Hb, Hz, Ho, Hm⟩, ⟨⟨⟨%f0, H0⟩, ⟨%f1, H1⟩, ⟨%f2, H2⟩, ⟨%f3, H3⟩, ⟨%f4, H4⟩⟩, Hbufs⟩,
    ⟨⟨Hc0, Hc1, Hc2, Hc3, Hc4, Hc5, Hc6, Hc7, Hc8⟩, Hsems⟩, HO⟩
  ihave #Hmw := (show levAts (K (F := F)).L (K (F := F)).lev ⊢ Transfers.MayWaits (thr d L) (default : HIx 1) O from
    (K (F := F)).mayWaits_none (thr := thr d L) hO) $$ Hlv
  ihave Hb' := (Entails.of_eq (show bPts m d (wL L) = (batV.view.loc (thr d L) ↦{shr (wL L)} m (bLoc d) : sProp 𝕄) from rfl)) $$ Hb
  ihave Hz' := (Entails.of_eq (show zPts (F := F) d (wL L) = (zerV.view.loc (thr d L) ↦{shr (wL L)} (ZR d : Buf (Elt F) (zLoc d)) : sProp 𝕄) from rfl)) $$ Hz
  ihave Hs' := (Entails.of_eq (show sPts m d (wL L) = (srcV.view.loc (thr d L) ↦{shr (wL L)} m (sLoc d) : sProp 𝕄) from rfl)) $$ Hs
  ihave H0' := (Entails.of_eq (show ((thr d L).loc cc0_scratch0 ↦{fullShare} f0 : sProp 𝕄) = (aBat.view.loc (thr d L) ↦{fullShare} f0) from rfl)) $$ H0
  ihave H3' := (Entails.of_eq (show ((thr d L).loc cc0_scratch3 ↦{fullShare} f3 : sProp 𝕄) = (aZer.view.loc (thr d L) ↦{fullShare} f3) from rfl)) $$ H3
  ihave H4' := (Entails.of_eq (show ((thr d L).loc cc0_scratch4 ↦{fullShare} f4 : sProp 𝕄) = (aMsk.view.loc (thr d L) ↦{fullShare} f4) from rfl)) $$ H4
  sl_exec
  ihave H0 := (Entails.of_eq (show (aBat.view.loc (thr d L) ↦{fullShare} View.write (Elt F) aBat.view f0 (tile_body.sl.dma0 m d) Finset.univ : sProp 𝕄)
    = own0 d L (m (bLoc d)) by unfold own0; rw [View.write_whole_univ]; rfl)) $$ H0'
  sl_for (inv1 m d L) $$ [H0]
  case region =>
    intro k acc
    have h := trip1 m d L hs k acc
    unfold tb1 at h
    assumption
  · unfold inv1
    isplitr
    · ipureintro; rfl
    · iexact H0
  iintro %acc HI
  obtain ⟨lt, le⟩ := acc
  unfold inv1
  icases HI with ⟨%he, H0⟩
  have e37 : extractAt ![15] (k0_pay3 lt) inpos_S16_p15 = aW m d L := by
    rw [(Prod.mk.inj he).1]; exact total (fun n => key (m (bLoc d)) n < (L 1).val)
  have e40 : extractAt ![15] (k0_pay4 le) inpos_S16_p15 = bW m d L := by
    rw [(Prod.mk.inj he).2]; exact total (fun n => key (m (bLoc d)) n ≤ (L 1).val)
  clear he
  have hchk : k0_chk1 L (extractAt ![15] (k0_pay3 lt) inpos_S16_p15) (extractAt ![15] (k0_pay4 le) inpos_S16_p15) := by
    rw [e37, e40]; exact hw m d L
  unfold tile_body.sl.prog.cont_1
  sl_exec
  have h29 : tile_body.sl.v29 L = p0w L := rfl
  sl_for (inv2 m d L) $$ [H4']
  case region =>
    intro k acc
    have h := trip2' m d L lt le (tile_body.sl.v29 L) h29 e37 e40 k acc
    unfold tb2 at h
    unfold tile_body.sl.prog.body_2
    with_reducible assumption
  · unfold inv2
    iexists f4
    isplitr
    · ipureintro
      intro x hx
      exact absurd hx (Nat.not_lt_zero _)
    · iexact H4'
  iintro %acc HI
  unfold inv2
  icases HI with ⟨%fm, %hfm, H4⟩
  ihave Hm' := (Entails.of_eq (mPts_eq d L (m (mLoc d)))) $$ Hm
  unfold tile_body.sl.prog.cont_2
  sl_exec
  have eM (g : Buf (Elt F) (mLoc d)) : ((mskSl L).view.loc (thr d L) ↦[(mskSl L).view.set]{fullShare}
      (mskSl L).view.writes (Elt F) g [⟨Rect.whole S1024, fm⟩] : sProp 𝕄) = mPts d (wL L) (MK m d) := by
    rw [mPts_eq d L]
    refine view_congr d L (mskSl L) _ (MK m d) fun x => ?_
    rw [msk_writes d L]
    have hx : (x 0).val < 1024 := (x 0).isLt
    have hc : (L 0).val < 2 := (L 0).isLt
    refine (hfm x hx).trans (mask_at _ (b := (L 1).val) (p := 1024 * (L 0).val + (x 0).val) ?_ (by omega)).symm
    show k0_off3 L 0 + 1 * (x 0).val = _
    have e : k0_off3 L 0 = 2048 * (L 1).val + 1024 * (L 0).val := by rw [k0_off3_eq]; rfl
    omega
  ihave Hm := (Entails.of_eq ((congrArg (fun g => ((mskSl L).view.loc (thr d L) ↦[(mskSl L).view.set]{fullShare}
      (mskSl L).view.writes (Elt F) ((mskSl L).view.junk (Val := Elt F)) [⟨Rect.whole S1024, g⟩] : sProp 𝕄))
      (show tile_body.sl.dma0_2 d L fm = fm from rfl)).trans (eM _))) $$ Hm'
  ihave H3 := (Entails.of_eq (show (aZer.view.loc (thr d L) ↦{fullShare} View.write (Elt F) aZer.view f3 (tile_body.sl.dma0_1 d) Finset.univ : sProp 𝕄)
    = own3 d L (ZR d) by unfold own3; rw [View.write_whole_univ]; rfl)) $$ H3'
  ihave H1' := (Entails.of_eq (show ((thr d L).loc cc0_scratch1 ↦{fullShare} f1 : sProp 𝕄) = own1 d L f1 from rfl)) $$ H1
  ihave H2' := (Entails.of_eq (show ((thr d L).loc cc0_scratch2 ↦{fullShare} f2 : sProp 𝕄) = own2 d L f2 from rfl)) $$ H2
  ihave Ho' := (Entails.of_eq (chs_zero m d L).symm) $$ Ho
  have h44 : Scalar.minsi 1024#32 (Scalar.maxsi 0#32 (Scalar.subi (Scalar.subi (extractAt ![15] (k0_pay4 le) inpos_S16_p15) (extractAt ![15] (k0_pay3 lt) inpos_S16_p15)) (tile_body.sl.v29 L)))
      = availw L (extractAt ![15] (k0_pay3 lt) inpos_S16_p15) (extractAt ![15] (k0_pay4 le) inpos_S16_p15) := by
    rw [h29]; rfl
  sl_for (inv3 m d L O W) $$ [Hs' H1' H2' H3 Hc3 Hc4 Hc5 Hc6 Hc7 Hc8 HO Ho']
  case region =>
    intro k acc
    have h := trip3' m d L O W _ _ _ hchk e37 e40 h44 k acc
    unfold tb3 at h
    unfold tile_body.sl.prog.body_3
    with_reducible assumption
  · unfold inv3
    isplitr [Ho']
    · iframe Hmw Hs' H3 Hc3 Hc4 Hc5 Hc6 Hc7 Hc8
      isplitl [H1']
      · iexists _; iexact H1'
      isplitl [H2']
      · iexists _; iexact H2'
      iexists _
      isplitr
      rotate_left
      · iexact HO
      · ipureintro
        exact wait_mem _ (wait_mem _ (wait_mem _ fun p hp => .inl hp))
    · iexact Ho'
  iintro %acc' HI
  unfold inv3
  icases HI with ⟨⟨-, Hs, H1, H2, H3, ⟨Hc3, Hc4, Hc5, Hc6, Hc7, Hc8⟩, HO⟩, Ho⟩
  ihave Ho' := (Entails.of_eq (show chs m d L (Scf.trips k0_t3_loop.lb k0_t3_loop.ub k0_t3_loop.st) = oAll d (wL L) (TG m d) from chs_all m d L)) $$ Ho
  unfold tile_body.sl.prog.cont_3
  sl_exec
  sl_step
  isplitl [Hs Hb' Hz' Ho' Hm]
  · isplitl [Hs]; · iexact Hs
    isplitl [Hb']; · iexact Hb'
    isplitl [Hz']; · iexact Hz'
    isplitl [Ho'] <;> iassumption
  isplitl [H0 H1 H2 H3 H4 Hbufs]
  · isplitr [Hbufs]
    · isplitl [H0]; · iexists _; iexact H0
      isplitl [H1]; · iexact H1
      isplitl [H2]; · iexact H2
      isplitl [H3]; · iexists _; iexact H3
      iexists _; iexact H4
    · iexact Hbufs
  isplitr [HO]
  · isplitr [Hsems]
    · iframe Hc0 Hc1 Hc2 Hc3 Hc4 Hc5 Hc6 Hc7 Hc8
    · iexact Hsems
  iexact HO

end Cert.Proof.Pad

end
-- ==== Proof.Launch.lean ====
/- The launch: the arrays split among the subcores and joined back, the obligation of each subcore, the host
   operations before and after the call, and the run of the whole program from any launch memory whose graph
   numbers are below 16 and in order. -/
module

public import proofs.«01_k».proof.Proof.Tile

@[expose] public section

set_option maxRecDepth 16384

noncomputable section

namespace Cert.Proof.Pad

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The obligation of a subcore -/

def coordsV (c : Fin (grid0.bound 0)) (s : Fin (grid0.bound 1)) : grid0.Coords :=
  fun | 0 => c | 1 => s | ⟨_ + 2, h⟩ => absurd h (Nat.not_lt.2 (Nat.le_add_left _ _))

/-- The program of the subcore at a grid point, kept folded. -/
@[irreducible] def bodyI (L : grid0.Coords) : Prog (TpuEff nD τ sig (Elt F) Λ₀ (.scVector (cV L) (jV L))) PUnit := body L

theorem defs₀_vector (c : Fin τ.nSC) (s : Fin τ.nSub) :
    defs₀ (F := F) (.scVector c s) 0 () = SparseCore.onTile hcore0 hsub0 (fun c s => bodyI (F := F) (coordsV c s)) ⟨⟩ c s := by
  unfold bodyI; rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task with the folded program. -/
theorem tile_bodyI (d : Dev nD) (L : grid0.Coords) (hF : (K (F := F)).Facts) (hpre : PreOK m) (O : CellTallies nD τ sig (HIx 1)) (W : Waits sig (HIx 1))
    (hO : ∀ g, O g none = 0) :
    iprop(levAts (K (F := F)).L (K (F := F)).lev ∗ emp ∗ tileIn m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyI L)
          fun _ => iprop(tileOut m d (wL L) ∗ scopedBufs (V d (cV L) (jV L)) ∗ scopedSems0 (V d (cV L) (jV L))
            ∗ ∃ W', ⌜∀ p ∈ W', p ∈ W ∨ p.2 = none ∨ p.2 = some 0⌝ ∗ owes (V d (cV L) (jV L)) O W') := by
  have h := tile_body m d L hF hpre O W hO
  have h' := h.trans (wp_mono frame _ _ fun _ => obl_post (q := 0))
  unfold bodyI
  with_reducible assumption

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_bodyI m d (coordsV ⟨_, hci.1⟩ ⟨_, hci.2⟩) hF hpre O W hO

theorem vecSplit : (K (F := F)).VecSplit' (P m) 0 := by
  intro d c
  show (bigSep Finset.univ fun i : Fin ((K (F := F)).nSub 0) => tileIn m d (wOf c i)) ⊢ |={Set.univ}=> iprop(
      (bigSep Finset.univ fun i : Fin ((K (F := F)).nSub 0) => tileIn m d (wOf c i))
      ∗ ((bigSep Finset.univ fun i : Fin ((K (F := F)).nSub 0) => tileOut m d (wOf c i))
          -∗ bigSep Finset.univ fun i : Fin ((K (F := F)).nSub 0) => tileOut m d (wOf c i)))
  iintro H; imodintro
  isplitl [H]; · iexact H
  iintro H; iexact H

/-! ## The arrays split among the subcores -/

/-- A subcore's number from its core and its number in the core. -/
def widE : Fin 2 × Fin 16 ≃ Fin 32 := (Equiv.prodComm (Fin 2) (Fin 16)).trans finProdFinEquiv
theorem widE_ap (a : Fin 2 × Fin 16) : widE a = wid a.1 a.2 :=
  Fin.ext (show a.1.val + 2 * a.2.val = 2 * a.2.val + a.1.val by omega)
/-- A chunk from its subcore and its number there. -/
def ownE : Fin 32 × Fin 32 ≃ Fin 1024 := finProdFinEquiv
theorem ownE_ap (a : Fin 32 × Fin 32) : ownE a = own a.1 a.2 :=
  Fin.ext (show a.2.val + 32 * a.1.val = 32 * a.1.val + a.2.val by omega)

omit [FloatOps F] in
/-- A separate piece for each subcore, by cores and then subcores. -/
theorem by_core (Φ : Fin 32 → sProp 𝕄) :
    (bigSep Finset.univ fun c : Fin ((K (F := F)).nCore 0) => bigSep Finset.univ fun i : Fin ((K (F := F)).nSub 0) => Φ (wOf c i)) = bigSep Finset.univ Φ := by
  rw [bigSep_univ_equiv widE Φ]
  refine Eq.trans ?_ (bigSep_univ_prod (fun a : Fin 2 × Fin 16 => Φ (widE a))).symm
  exact bigSep_congr fun c _ => bigSep_congr fun i _ => by rw [widE_ap]; rfl

omit [FloatOps F] in
theorem o_split (d : Dev nD) (f : Buf (Elt F) (oLoc d)) :
    (oLoc d ↦{fullShare} f : sProp 𝕄) = bigSep Finset.univ fun w : Fin 32 => bigSep Finset.univ fun j : Fin 32 => oLoc d ↦[oSet (own w j)]{fullShare} f := by
  have h := pointsTo_biUnion (Val := Elt F) (Name := ℕ) (U := UU) (Ix := HIx 1) (Lvl := ℕ) (q := fullShare) (f := f) Finset.univ (ℓ := oLoc d) oSet fun i _ j _ h => Rect.part_disjoint odiv h
  rw [show (Finset.univ : Finset (Fin 1024)).biUnion oSet = Finset.univ from Rect.biUnion_part odiv] at h
  rw [h, bigSep_univ_equiv ownE]
  refine (bigSep_univ_prod _).trans ?_
  exact bigSep_congr fun w _ => bigSep_congr fun j _ => by rw [ownE_ap]

omit [FloatOps F] in
theorem m_split (d : Dev nD) (f : Buf (Elt F) (mLoc d)) :
    (mLoc d ↦{fullShare} f : sProp 𝕄) = bigSep Finset.univ fun w : Fin 32 => mLoc d ↦[mSet w]{fullShare} f := by
  have h := pointsTo_biUnion (Val := Elt F) (Name := ℕ) (U := UU) (Ix := HIx 1) (Lvl := ℕ) (q := fullShare) (f := f) Finset.univ (ℓ := mLoc d) mSet fun i _ j _ h => Rect.part_disjoint mdiv h
  rw [show (Finset.univ : Finset (Fin 32)).biUnion mSet = Finset.univ from Rect.biUnion_part mdiv] at h
  exact h

/-- The five arrays held whole. -/
abbrev arrays (d : Dev nD) (fo : Buf (Elt F) (oLoc d)) (fm : Buf (Elt F) (mLoc d)) : sProp 𝕄 :=
  iprop((sLoc d ↦{fullShare} m (sLoc d)) ∗ (bLoc d ↦{fullShare} m (bLoc d)) ∗ (zLoc d ↦{fullShare} (ZR d : Buf (Elt F) (zLoc d)))
    ∗ (oLoc d ↦{fullShare} fo) ∗ mLoc d ↦{fullShare} fm)

theorem arrays_eq (d : Dev nD) (fo : Buf (Elt F) (oLoc d)) (fm : Buf (Elt F) (mLoc d)) :
    (bigSep Finset.univ fun w : Fin 32 => tileArr m d w fo fm) = arrays m d fo fm := by
  unfold tileArr arrays sPts bPts zPts oAll oPts mPts
  rw [bigSep_sep', bigSep_sep', bigSep_sep', bigSep_sep', o_split, m_split,
    pointsTo_leaves Finset.univ (m (sLoc d)) 5 fullShare, pointsTo_leaves Finset.univ (m (bLoc d)) 5 fullShare, pointsTo_leaves Finset.univ (ZR d : Buf (Elt F) (zLoc d)) 5 fullShare]
  rfl

theorem st0_eq (d : Dev nD) : (bigSep Finset.univ fun c : Fin ((K (F := F)).nCore 0) => (P m).st 0 d c) = arrays m d (m (oLoc d)) (m (mLoc d)) :=
  (by_core (F := F) (fun w => tileIn m d w)).trans (arrays_eq m d _ _)
theorem dn0_eq (d : Dev nD) : (bigSep Finset.univ fun c : Fin ((K (F := F)).nCore 0) => (P m).dn 0 d c) = arrays m d (TG m d) (MK m d) :=
  (by_core (F := F) (fun w => tileOut m d w)).trans (arrays_eq m d _ _)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.Pad

end
-- ==== Proof.Main.lean ====
/- The program of the host around the call, and the run of the whole. -/
module

public import proofs.«01_k».proof.Proof.Launch

@[expose] public section

set_option maxRecDepth 16384

noncomputable section

namespace Cert.Proof.Pad

open Cert.KernelIdeal Cert.KernelIdeal.Gen
open Idealize.ShloMosaic
open Idealize.ShloMosaic.SparseCore (S V T)
open Idealize.ShloMosaic.StableHlo (held wp_hlo_within)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays and the operations of the host -/

abbrev aS : DevRef τ sig := Proc.devRef .tc (main_arg0 : Ref sig .tc)
abbrev aB : DevRef τ sig := Proc.devRef .tc (main_arg1 : Ref sig .tc)
abbrev aF : DevRef τ sig := Proc.devRef .tc (main_cst : Ref sig .tc)
abbrev aZ : DevRef τ sig := Proc.devRef .tc (main_v0 : Ref sig .tc)
abbrev aO : DevRef τ sig := Proc.devRef .tc (main_v1_0 : Ref sig .tc)
abbrev aM1 : DevRef τ sig := Proc.devRef .tc (main_v1_1 : Ref sig .tc)
abbrev aP : DevRef τ sig := Proc.devRef .tc (main_v2 : Ref sig .tc)
abbrev aW3 : DevRef τ sig := Proc.devRef .tc (main_v3 : Ref sig .tc)
abbrev aC : DevRef τ sig := Proc.devRef .tc (main_c : Ref sig .tc)
abbrev aK : DevRef τ sig := Proc.devRef .tc (main_v4 : Ref sig .tc)
abbrev aR : DevRef τ sig := Proc.devRef .tc (main_v5 : Ref sig .tc)

abbrev opF : HloOp τ sig (Elt F) := StableHlo.nullary main_cst (constant S_ .f32 0x00000000#32)
abbrev opZ : HloOp τ sig (Elt F) := StableHlo.unary main_cst main_v0 (broadcastInDim S32x1024 ![] bcast_S_S32x1024 : (⟨S_, .f32⟩ : BufTy).Contents (Elt F) → (⟨S32x1024, .f32⟩ : BufTy).Contents (Elt F))
abbrev opP : HloOp τ sig (Elt F) := StableHlo.reshape main_v1_0 main_v2 (rfl : (.f32 : EltTy) = .f32) shapeCasts_S32768x1024_S16x2048x1024
abbrev opN : HloOp τ sig (Elt F) := StableHlo.reshape main_v1_1 main_v3 (rfl : (.i32 : EltTy) = .i32) shapeCasts_S32768_S16x2048
abbrev opC : HloOp τ sig (Elt F) := StableHlo.nullary main_c (constantI S_ 32 0#32)
abbrev opK : HloOp τ sig (Elt F) := StableHlo.unary main_c main_v4 (broadcastInDim S16x2048 ![] bcast_S_S16x2048 : (⟨S_, .i32⟩ : BufTy).Contents (Elt F) → (⟨S16x2048, .i32⟩ : BufTy).Contents (Elt F))
abbrev opR : HloOp τ sig (Elt F) := StableHlo.binary main_v3 main_v4 main_v5 (cmpi .ne : (⟨S16x2048, .i32⟩ : BufTy).Contents (Elt F) → (⟨S16x2048, .i32⟩ : BufTy).Contents (Elt F) → (⟨S16x2048, .i1⟩ : BufTy).Contents (Elt F))

abbrev SS : Finset (DevRef τ sig) := {aS, aB, aZ, aO, aM1, aF, aP, aW3, aC, aK, aR}

omit [FloatOps F] in
theorem held_SS (d : Dev nD) (W : Valuation τ sig (Elt F)) :
    (held (T d) SS W : sProp 𝕄)
      = iprop((sLoc d ↦{fullShare} W aS) ∗ (bLoc d ↦{fullShare} W aB) ∗ (zLoc d ↦{fullShare} W aZ) ∗ (oLoc d ↦{fullShare} W aO) ∗ (mLoc d ↦{fullShare} W aM1)
          ∗ ((T d : Thread nD τ).loc main_cst ↦{fullShare} W aF) ∗ ((T d : Thread nD τ).loc main_v2 ↦{fullShare} W aP) ∗ ((T d : Thread nD τ).loc main_v3 ↦{fullShare} W aW3)
          ∗ ((T d : Thread nD τ).loc main_c ↦{fullShare} W aC) ∗ ((T d : Thread nD τ).loc main_v4 ↦{fullShare} W aK) ∗ (T d : Thread nD τ).loc main_v5 ↦{fullShare} W aR) := by
  unfold held SS
  iterate 10 rw [SparseCore.bigSep_insert' (by decide)]
  rw [bigSep_singleton]

omit [FloatOps F] in
theorem unscopedBufs_eq (d : Dev nD) (W : (b : Ref sig .tc) → Buf (Elt F) ((d.tc : Thread nD τ).loc b)) :
    (unscopedBufs d W : sProp 𝕄)
      = iprop((sLoc d ↦{fullShare} W main_arg0) ∗ (bLoc d ↦{fullShare} W main_arg1) ∗ (zLoc d ↦{fullShare} W main_v0) ∗ (oLoc d ↦{fullShare} W main_v1_0) ∗ (mLoc d ↦{fullShare} W main_v1_1)
          ∗ ((T d : Thread nD τ).loc main_cst ↦{fullShare} W main_cst) ∗ ((T d : Thread nD τ).loc main_v2 ↦{fullShare} W main_v2) ∗ ((T d : Thread nD τ).loc main_v3 ↦{fullShare} W main_v3)
          ∗ ((T d : Thread nD τ).loc main_c ↦{fullShare} W main_c) ∗ ((T d : Thread nD τ).loc main_v4 ↦{fullShare} W main_v4) ∗ (T d : Thread nD τ).loc main_v5 ↦{fullShare} W main_v5) := by
  unfold unscopedBufs
  rw [show (Finset.univ.filter fun b : Ref sig .tc => ¬ b.isScoped)
      = {main_arg0, main_arg1, main_v0, main_v1_0, main_v1_1, main_cst, main_v2, main_v3, main_c, main_v4, main_v5} by decide]
  iterate 10 rw [SparseCore.bigSep_insert' (by decide)]
  rw [bigSep_singleton]

/-! ## The values as the host goes on -/

/-- At the launch, before the call, after the call, at the end. -/
def V0 (d : Dev nD) : Valuation τ sig (Elt F) := fun b => m (d, b)
def V2 (d : Dev nD) : Valuation τ sig (Elt F) := (opZ (F := F)).result ((opF (F := F)).result (V0 m d))
def V3 (d : Dev nD) : Valuation τ sig (Elt F) := Function.update (Function.update (V2 m d) aO (TG m d)) aM1 (MK m d)
def V8 (d : Dev nD) : Valuation τ sig (Elt F) :=
  (opR (F := F)).result ((opK (F := F)).result ((opC (F := F)).result ((opN (F := F)).result ((opP (F := F)).result (V3 m d)))))

/-- The two results. -/
def padOut (d : Dev nD) : Buf (Elt F) ((T d : Thread nD τ).loc main_v2) := shapeCast S16x2048x1024 (TG m d : FVec F S32768x1024 .f32) shapeCasts_S32768x1024_S16x2048x1024
def mskOut (d : Dev nD) : Buf (Elt F) ((T d : Thread nD τ).loc main_v5) :=
  cmpi .ne (shapeCast S16x2048 (MK m d : IVec S32768 32) shapeCasts_S32768_S16x2048) (broadcastInDim S16x2048 ![] bcast_S_S16x2048 (constantI S_ 32 0#32))

theorem unscoped_held (d : Dev nD) : (unscopedBufs d (fun b => m ((SparseCore.T d).loc b)) : sProp 𝕄) = held (T d) SS (V0 m d) := by
  rw [unscopedBufs_eq, held_SS]; rfl

theorem V2_off (d : Dev nD) (b : DevRef τ sig) (h1 : b ∉ ({aZ} : Finset (DevRef τ sig))) (h2 : b ∉ ({aF} : Finset (DevRef τ sig))) : V2 m d b = m (d, b) := by
  unfold V2
  rw [(opZ (F := F)).result_of_not_mem _ h1, (opF (F := F)).result_of_not_mem _ h2]
  rfl
theorem V2_z (d : Dev nD) : V2 m d aZ = (ZR d : Buf (Elt F) (zLoc d)) := by
  unfold V2
  refine (StableHlo.unary_result _ _ _ _ _ _).trans ?_
  rw [show (opF (F := F)).result (V0 m d) aF = constant S_ .f32 0x00000000#32 from StableHlo.nullary_result _ _ _ _]
  rfl

theorem V3_off (d : Dev nD) (b : DevRef τ sig) (h1 : b ≠ aM1) (h2 : b ≠ aO) : V3 m d b = V2 m d b := by
  unfold V3
  rw [Function.update_of_ne h1, Function.update_of_ne h2]
theorem V3_m (d : Dev nD) : V3 m d aM1 = MK m d := Function.update_self _ _ _
theorem V3_o (d : Dev nD) : V3 m d aO = TG m d := (Function.update_of_ne (show aO ≠ aM1 by decide) _ _).trans (Function.update_self _ _ _)

theorem V8_off (d : Dev nD) (b : DevRef τ sig) (h1 : b ∉ ({aR} : Finset (DevRef τ sig))) (h2 : b ∉ ({aK} : Finset (DevRef τ sig)))
    (h3 : b ∉ ({aC} : Finset (DevRef τ sig))) (h4 : b ∉ ({aW3} : Finset (DevRef τ sig))) (h5 : b ∉ ({aP} : Finset (DevRef τ sig))) : V8 m d b = V3 m d b := by
  unfold V8
  rw [(opR (F := F)).result_of_not_mem _ h1, (opK (F := F)).result_of_not_mem _ h2, (opC (F := F)).result_of_not_mem _ h3,
    (opN (F := F)).result_of_not_mem _ h4, (opP (F := F)).result_of_not_mem _ h5]
theorem V8_s (d : Dev nD) : V8 m d aS = m (sLoc d) :=
  (V8_off m d aS (by decide) (by decide) (by decide) (by decide) (by decide)).trans
    ((V3_off m d aS (by decide) (by decide)).trans (V2_off m d aS (by decide) (by decide)))
theorem V8_b (d : Dev nD) : V8 m d aB = m (bLoc d) :=
  (V8_off m d aB (by decide) (by decide) (by decide) (by decide) (by decide)).trans
    ((V3_off m d aB (by decide) (by decide)).trans (V2_off m d aB (by decide) (by decide)))
theorem V8_p (d : Dev nD) : V8 m d aP = padOut m d := by
  unfold V8
  rw [(opR (F := F)).result_of_not_mem _ (show aP ∉ ({aR} : Finset (DevRef τ sig)) by decide),
    (opK (F := F)).result_of_not_mem _ (show aP ∉ ({aK} : Finset (DevRef τ sig)) by decide),
    (opC (F := F)).result_of_not_mem _ (show aP ∉ ({aC} : Finset (DevRef τ sig)) by decide),
    (opN (F := F)).result_of_not_mem _ (show aP ∉ ({aW3} : Finset (DevRef τ sig)) by decide)]
  refine (StableHlo.reshape_result _ _ _ _ _ _ _).trans ?_
  rw [V3_o]
  rfl
theorem V8_r (d : Dev nD) : V8 m d aR = mskOut m d := by
  unfold V8
  refine (StableHlo.binary_result _ _ _ _ _ _ _ _).trans ?_
  rw [show (opK (F := F)).result ((opC (F := F)).result ((opN (F := F)).result ((opP (F := F)).result (V3 m d)))) aK
      = broadcastInDim S16x2048 ![] bcast_S_S16x2048 (constantI S_ 32 0#32) from
    (StableHlo.unary_result _ _ _ _ _ _).trans (by
      rw [show (opC (F := F)).result ((opN (F := F)).result ((opP (F := F)).result (V3 m d))) aC = constantI S_ 32 0#32 from StableHlo.nullary_result _ _ _ _]),
    (opK (F := F)).result_of_not_mem _ (show aW3 ∉ ({aK} : Finset (DevRef τ sig)) by decide),
    (opC (F := F)).result_of_not_mem _ (show aW3 ∉ ({aC} : Finset (DevRef τ sig)) by decide)]
  rw [show (opN (F := F)).result ((opP (F := F)).result (V3 m d)) aW3 = shapeCast S16x2048 (MK m d : IVec S32768 32) shapeCasts_S32768_S16x2048 from
    (StableHlo.reshape_result _ _ _ _ _ _ _).trans (by
      rw [(opP (F := F)).result_of_not_mem _ (show aM1 ∉ ({aP} : Finset (DevRef τ sig)) by decide), V3_m]; rfl)]
  rfl

theorem hF' : (opF (F := F)).bufs ⊆ SS := show ({aF} : Finset (DevRef τ sig)) ⊆ SS by decide
theorem hZ' : (opZ (F := F)).bufs ⊆ SS := show ({aF, aZ} : Finset (DevRef τ sig)) ⊆ SS by decide
theorem hP' : (opP (F := F)).bufs ⊆ SS := show ({aO, aP} : Finset (DevRef τ sig)) ⊆ SS by decide
theorem hN' : (opN (F := F)).bufs ⊆ SS := show ({aM1, aW3} : Finset (DevRef τ sig)) ⊆ SS by decide
theorem hC' : (opC (F := F)).bufs ⊆ SS := show ({aC} : Finset (DevRef τ sig)) ⊆ SS by decide
theorem hK' : (opK (F := F)).bufs ⊆ SS := show ({aC, aK} : Finset (DevRef τ sig)) ⊆ SS by decide
theorem hR' : (opR (F := F)).bufs ⊆ SS := show ({aW3, aK, aR} : Finset (DevRef τ sig)) ⊆ SS by decide

/-- The arrays that the call does not touch. -/
abbrev rest (d : Dev nD) : sProp 𝕄 :=
  iprop(((T d : Thread nD τ).loc main_cst ↦{fullShare} V2 m d aF) ∗ ((T d : Thread nD τ).loc main_v2 ↦{fullShare} V2 m d aP) ∗ ((T d : Thread nD τ).loc main_v3 ↦{fullShare} V2 m d aW3)
    ∗ ((T d : Thread nD τ).loc main_c ↦{fullShare} V2 m d aC) ∗ ((T d : Thread nD τ).loc main_v4 ↦{fullShare} V2 m d aK) ∗ (T d : Thread nD τ).loc main_v5 ↦{fullShare} V2 m d aR)

theorem before_call (d : Dev nD) :
    (held (T d) SS ((opZ (F := F)).result ((opF (F := F)).result (V0 m d))) : sProp 𝕄) ⊢ iprop(arrays m d (m (oLoc d)) (m (mLoc d)) ∗ rest m d) := by
  have e : (opZ (F := F)).result ((opF (F := F)).result (V0 m d)) = V2 m d := rfl
  rw [e, held_SS, V2_off m d aS (by decide) (by decide), V2_off m d aB (by decide) (by decide), V2_z,
    V2_off m d aO (by decide) (by decide), V2_off m d aM1 (by decide) (by decide)]
  iintro ⟨H1, H2, H3, H4, H5, H6⟩
  isplitr [H6]
  · isplitl [H1]; · iexact H1
    isplitl [H2]; · iexact H2
    isplitl [H3]; · iexact H3
    isplitl [H4]; · iexact H4
    iexact H5
  · iexact H6

theorem after_call (d : Dev nD) : iprop(arrays m d (TG m d) (MK m d) ∗ rest m d) ⊢ (held (T d) SS (V3 m d) : sProp 𝕄) := by
  rw [held_SS, V3_o, V3_m, V3_off m d aS (by decide) (by decide), V3_off m d aB (by decide) (by decide), V3_off m d aZ (by decide) (by decide),
    V3_off m d aF (by decide) (by decide), V3_off m d aP (by decide) (by decide), V3_off m d aW3 (by decide) (by decide), V3_off m d aC (by decide) (by decide),
    V3_off m d aK (by decide) (by decide), V3_off m d aR (by decide) (by decide), V2_off m d aS (by decide) (by decide), V2_off m d aB (by decide) (by decide), V2_z]
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

/-- What is kept of the arrays at the end. -/
abbrev FIN (d : Dev nD) : sProp 𝕄 :=
  iprop((sLoc d ↦{fullShare} m (sLoc d)) ∗ (bLoc d ↦{fullShare} m (bLoc d)) ∗ ((T d : Thread nD τ).loc main_v2 ↦{fullShare} padOut m d)
    ∗ (T d : Thread nD τ).loc main_v5 ↦{fullShare} mskOut m d)

theorem at_end (d : Dev nD) : (held (T d) SS (V8 m d) : sProp 𝕄) ⊢ FIN m d := by
  rw [held_SS, V8_s, V8_b, V8_p, V8_r]
  iintro ⟨H1, H2, -, -, -, -, H3, -, -, -, H4⟩
  isplitl [H1]; · iexact H1
  isplitl [H2]; · iexact H2
  isplitl [H3]; · iexact H3
  iexact H4

/-- The program of the host on device `d`: two operations, the call, five operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opF) (S := SS) hF' (V := V0 m d)) $$ [Hb Hheld]
  · isplitl [Hb] <;> iassumption
  iintro ⟨Hb, Hheld⟩
  rw [wp_ret]; imodintro
  iapply (wp_hlo_within 𝒱 (SparseCore.T d) none Set.univ (op := opZ) (S := SS) hZ' (V := (opF (F := F)).result (V0 m d))) $$ [Hb Hheld]
  · isplitl [Hb] <;> iassumption
  iintro ⟨Hb, Hheld⟩
  rw [wp_ret]; imodintro
  ihave Hh := (before_call m d) $$ Hheld
  icases Hh with ⟨Ha, Hr⟩
  iapply ((K (F := F)).wp_run (D (F := F)) 𝒱 (EH := EH) (P := P m) κ d 0) $$ [Hst Ha Hb Hr Hts]
  isplitr; · iexact Hctx
  isplitl [Hst]; · iexact Hst
  isplitl [Ha]
  · rw [st0_eq]
    iexact Ha
  iintro ⟨Hst, Hdn⟩
  ihave Ha := (Entails.of_eq (dn0_eq m d)) $$ Hdn
  ihave Hheld := (after_call m d) $$ [Ha Hr]
  · isplitl [Ha] <;> iassumption
  iapply (wp_hlo_within 𝒱 (SparseCore.T d) none Set.univ (op := opP) (S := SS) hP' (V := V3 m d)) $$ [Hb Hheld]
  · isplitl [Hb] <;> iassumption
  iintro ⟨Hb, Hheld⟩
  rw [wp_ret]; imodintro
  iapply (wp_hlo_within 𝒱 (SparseCore.T d) none Set.univ (op := opN) (S := SS) hN' (V := (opP (F := F)).result (V3 m d))) $$ [Hb Hheld]
  · isplitl [Hb] <;> iassumption
  iintro ⟨Hb, Hheld⟩
  rw [wp_ret]; imodintro
  iapply (wp_hlo_within 𝒱 (SparseCore.T d) none Set.univ (op := opC) (S := SS) hC' (V := (opN (F := F)).result ((opP (F := F)).result (V3 m d)))) $$ [Hb Hheld]
  · isplitl [Hb] <;> iassumption
  iintro ⟨Hb, Hheld⟩
  rw [wp_ret]; imodintro
  iapply (wp_hlo_within 𝒱 (SparseCore.T d) none Set.univ (op := opK) (S := SS) hK'
    (V := (opC (F := F)).result ((opN (F := F)).result ((opP (F := F)).result (V3 m d))))) $$ [Hb Hheld]
  · isplitl [Hb] <;> iassumption
  iintro ⟨Hb, Hheld⟩
  rw [wp_ret]; imodintro
  iapply (wp_hlo_within 𝒱 (SparseCore.T d) none Set.univ (op := opR) (S := SS) hR'
    (V := (opK (F := F)).result ((opC (F := F)).result ((opN (F := F)).result ((opP (F := F)).result (V3 m d)))))) $$ [Hb Hheld]
  · isplitl [Hb] <;> iassumption
  iintro ⟨Hb, Hheld⟩
  ihave Hheld' := (Entails.of_eq (show held (SparseCore.T d) SS ((opR (F := F)).result ((opK (F := F)).result ((opC (F := F)).result ((opN (F := F)).result ((opP (F := F)).result (V3 m d)))))) = (held (T d) SS (V8 m d) : sProp 𝕄) from rfl)) $$ Hheld
  ihave Hf := (at_end m d) $$ Hheld'
  rw [wp_ret]; imodintro; imodintro
  isplitl [Hst]; · iexact Hst
  isplitr [Hb Hts]
  · iexact Hf
  isplitl [Hb] <;> iassumption

/-- What the claims read of the final memory of device `d`. -/
def fq (d : Dev nD) (s' : Phys nD τ sig (Elt F)) : Prop :=
  s'.mem.mem ((T d : Thread nD τ).loc main_v2) = padOut m d ∧ s'.mem.mem ((T d : Thread nD τ).loc main_v5) = mskOut m d
    ∧ s'.mem.mem (sLoc d) = m (sLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hs, Hb, Hp, Hr⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s') (ℓ := (T d : Thread nD τ).loc main_v2) (I := Finset.univ) (q := fullShare) (f := padOut m d))) $$ [HSI Hp]
  · isplitl [HSI] <;> iassumption
  icases H with ⟨%h3, HSI, -⟩
  ihave H := (SI_pointsTo_agree (st := s') (ℓ := (T d : Thread nD τ).loc main_v5) (I := Finset.univ) (q := fullShare) (f := mskOut m d)) $$ [HSI Hr]
  · isplitl [HSI] <;> iassumption
  icases H with %h4
  ipureintro
  exact ⟨funext fun i => h3 i (Finset.mem_univ i), funext fun i => h4 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem ((T c : Thread nD τ).loc main_v2) = padOut m c ∧ r.2.mem ((T c : Thread nD τ).loc main_v5) = mskOut m c
    ∧ r.2.mem (sLoc c) = m (sLoc c) ∧ r.2.mem (bLoc c) = m (bLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pad

end
-- ==== Proof.RefValue.lean ====
/- The values of the reference program: its two results are the padded rows and the mask of Spec.lean, read as
   arrays of 16 graphs of 2048 rows.

   The reference counts the rows of each graph by a scatter of ones, sums the counts, subtracts from each row's
   number its graph's first row, and scatters the rows to the pairs of graph number and place. Row `i` lands at
   `(b, p)` exactly when its graph is `b` and `i = start b + p`. -/
module

public import proofs.«01_k».proof.Proof.Spec
public import proofs.«01_k».proof.Proof.Gen.ReferenceIdeal.Run
public import Idealize.ShloMosaic.Lib.Pipeline.Value
public import Idealize.ShloMosaic.Lib.Routing.OpsPair
public import Idealize.ShloMosaic.Lib.Routing.OpsSet
public import Idealize.ShloMosaic.Lib.Routing.OpsSearch
public import Idealize.ShloMosaic.Lib.Routing.Words

@[expose] public section

set_option maxRecDepth 16384

noncomputable section

namespace Cert.Proof.Ref

open Cert.ReferenceIdeal Cert.ReferenceIdeal.Gen
open Cert.Proof.Pad (key key_eq word_eq Sorted start stop len stop_le start_le_stop start_add_len key_iff count_key sum_len padded mask)
open Idealize.ShloMosaic Idealize.ShloMosaic.ValueIdx Idealize.ShloMosaic.Routing

variable {F : FTy → Type} [FloatOps F]

/-! ## The reference's operations, named -/

def zeros : IVec S16384 32 := broadcastInDim S16384 ![] bcast_S_S16384 (constantI S_ 32 0#32)
/-- An index counted from the end where negative. -/
def wrapped (k : BitVec 32) (v : IVec S16384 32) : IVec S16384 32 :=
  select (cmpi .slt v zeros) (addi v (broadcastInDim S16384 ![] bcast_S_S16384 (constantI S_ 32 k))) v
def column (v : IVec S16384 32) : IVec S16384x1 32 := broadcastInDim S16384x1 ![0] bcast_S16384_S16384x1_0 v
def clipped (bt : IVec S16384 32) : IVec S16384 32 := maxsi (broadcastInDim S16384 ![] bcast_S_S16384 (id (constantI S_ 32 0#32))) bt
def counts (bt : IVec S16384 32) : IVec S16 32 :=
  Host.scatter scatter_S16_S16384x1_S16384_n_0_0_1 IntOp.addi (broadcastInDim S16 ![] bcast_S_S16 (constantI S_ 32 0#32))
    (column (wrapped 16#32 (clipped bt))) (broadcastInDim S16384 ![] bcast_S_S16384 (constantI S_ 32 1#32))
def sums (bt : IVec S16384 32) : IVec S16 32 :=
  Host.reduceWindow IntOp.addi ![16] ![1] ![15] ![0] (counts bt) (broadcastInDim S_ ![] bcast_S_S_ (constantI S_ 32 0#32)) reduceWindows_S16_S16_w16s1p15_0 h_S_
def starts (bt : IVec S16384 32) : IVec S16 32 :=
  concatenate S16 0 [⟨S1, broadcastInDim S1 ![] bcast_S_S1 (constantI S_ 32 0#32)⟩, ⟨S15, extractStridedSlice S15 ![0] (sums bt) slices_S16_S15_0⟩] concatenates_S1_S15_S16_d0
def places (bt : IVec S16384 32) : IVec S16384 32 :=
  subi (iotaInDim S16384 32 0) (Host.gather gather_S16_S16384x1_S16384_n_0_n_n_0_1_1 (starts bt) (column (wrapped 16#32 bt)))
def pairs (bt : IVec S16384 32) : IVec S16384x2 32 :=
  concatenate S16384x2 1 [⟨S16384x1, column (wrapped 16#32 bt)⟩, ⟨S16384x1, column (wrapped 2048#32 (places bt))⟩] concatenates_S16384x1_S16384x1_S16384x2_d1
def refPad (src : FVec F S16384x1024 .f32) (bt : IVec S16384 32) : FVec F S16x2048x1024 .f32 :=
  Host.scatter scatter_S16x2048x1024_S16384x2_S16384x1024_1_01_01_1 (fun _ b => b)
    (broadcastInDim S16x2048x1024 ![] bcast_S_S16x2048x1024 (constant S_ .f32 0x00000000#32)) (pairs bt) src
def refMask (bt : IVec S16384 32) : IVec S16x2048 1 :=
  cmpi .slt (broadcastInDim S16x2048 ![0, 1] bcast_S1x2048_S16x2048_0_1 (broadcastInDim S1x2048 ![1] bcast_S2048_S1x2048_1 (iotaInDim S2048 32 0)))
    (broadcastInDim S16x2048 ![0, 1] bcast_S16x1_S16x2048_0_1 (broadcastInDim S16x1 ![0] bcast_S16_S16x1_0 (counts bt)))

/-! ## Their values at an index -/

variable {bt : IVec S16384 32} (hs : Sorted bt)

theorem zeros_ap (i : Fin 16384) : zeros (ix1 i) = 0#32 := bc0 _ _ _

/-- An index that is not negative stays. -/
theorem wrapped_ap (k : BitVec 32) (v : IVec S16384 32) (i : Fin 16384) {n : Nat} (hn : n < 2 ^ 31) (hv : v (ix1 i) = BitVec.ofNat 32 n) :
    wrapped k v (ix1 i) = BitVec.ofNat 32 n := by
  show Scalar.select (IntOp.cmpi .slt (v (ix1 i)) (zeros (ix1 i))) _ (v (ix1 i)) = _
  rw [zeros_ap, hv]
  refine wrap_of_lt _ _ ?_
  rw [BitVec.toNat_ofNat, Nat.mod_eq_of_lt (by omega)]
  exact hn

theorem column_ap (v : IVec S16384 32) (i : Fin 16384) : column v (ix2 i (0 : Fin 1)) = v (ix1 i) := bcCol _ v i

include hs in
theorem key_lt (i : Nat) : key bt i < 2 ^ 31 := Nat.lt_trans (hs.lt i) (by decide)

include hs in
theorem clipped_ap (i : Fin 16384) : clipped bt (ix1 i) = BitVec.ofNat 32 (key bt i.val) := by
  show IntOp.maxsi (broadcastInDim S16384 ![] bcast_S_S16384 (id (constantI S_ 32 0#32)) (ix1 i)) (bt (ix1 i)) = _
  rw [show broadcastInDim S16384 ![] bcast_S_S16384 (id (constantI S_ 32 0#32)) (ix1 i) = 0#32 from bc0 _ _ _, word_eq bt i]
  exact maxsi_zero_left (key_lt hs _)

include hs in
theorem graph_ap (i : Fin 16384) : column (wrapped 16#32 bt) (ix2 i (0 : Fin 1)) = BitVec.ofNat 32 (key bt i.val) :=
  (column_ap _ i).trans (wrapped_ap _ _ i (key_lt hs _) (word_eq bt i))

/-! ## The counts -/

/-- A one is added for each number that is met. -/
theorem fold_ones {ι : Type} (hit : ι → Prop) [DecidablePred hit] (u : ι → BitVec 32) (hu : ∀ n, u n = 1#32) (l : List ι) (z : Nat) :
    l.foldl (fun a n => if hit n then IntOp.addi a (u n) else a) (BitVec.ofNat 32 z) = BitVec.ofNat 32 (z + l.countP fun n => decide (hit n)) := by
  induction l generalizing z with
  | nil => rfl
  | cons n l ih =>
    rw [List.foldl_cons, List.countP_cons]
    by_cases h : hit n
    · rw [if_pos h, hu, show IntOp.addi (BitVec.ofNat 32 z) 1#32 = BitVec.ofNat 32 (z + 1) from (BitVec.ofNat_add z 1).symm, ih, if_pos (decide_eq_true h)]
      congr 1; omega
    · rw [if_neg h, ih, if_neg (fun e => h (of_decide_eq_true e))]; rfl

theorem count_lands (idx : IVec S16384x1 32) (i : Fin 16384) (x : Fin 16) :
    scatter_S16_S16384x1_S16384_n_0_0_1.resultIdx? (ix1 i) idx = some (ix1 x) ↔ (idx (ix2 i (0 : Fin 1))).toInt = (x.val : Int) := by
  refine (resultIdx?_ix1 scatter_S16_S16384x1_S16384_n_0_0_1 (ix1 i) idx x).trans ?_
  have hw : scatter_S16_S16384x1_S16384_n_0_0_1.window (ix1 i) 0 = 0 := rfl
  have hst : scatter_S16_S16384x1_S16384_n_0_0_1.start (ix1 i) idx 0 = (idx (ix2 i (0 : Fin 1))).toInt := by
    refine congrArg (fun q => (idx q).toInt) (funext fun a => Fin.ext ?_)
    match a with
    | ⟨0, _⟩ => rfl
    | ⟨1, _⟩ => rfl
  rw [hw, hst]; simp

include hs in
theorem counts_ap (x : Fin 16) : counts bt (ix1 x) = BitVec.ofNat 32 (len bt x.val) := by
  unfold counts
  rw [scatter_at, show broadcastInDim S16 ![] bcast_S_S16 (constantI S_ 32 0#32) (ix1 x) = BitVec.ofNat 32 0 from bc0 _ _ _]
  refine (fold_ones _ _ (fun n => bc0 _ _ _) _ 0).trans ?_
  rw [Nat.zero_add, ← count_key]
  refine congrArg (BitVec.ofNat 32) ?_
  have e : ∀ n : Fin S16384.numel, (scatter_S16_S16384x1_S16384_n_0_0_1.resultIdx? (S16384.rowMajor.symm n) (column (wrapped 16#32 (clipped bt))) = some (ix1 x))
      ↔ key bt n.val = x.val := fun n => by
    rw [show S16384.rowMajor.symm n = ix1 (n.cast (numel1 16384)) from symm1 n]
    refine (count_lands _ _ x).trans ?_
    rw [column_ap, wrapped_ap 16#32 _ _ (key_lt hs _) (clipped_ap hs (n.cast (numel1 16384))), WordCmp.toInt_ofNat_of_lt (w := 32) (key_lt hs _)]
    exact Int.ofNat_inj
  refine Eq.trans (List.countP_congr fun n _ => ?_) ((countP_finRange S16384.numel (fun i => key bt i = x.val)).trans (congrArg (Nat.count fun i => key bt i = x.val) (numel1 16384)))
  rw [decide_eq_true_iff, decide_eq_true_iff]
  exact e n

/-! ## The first rows -/

theorem len_le (bt : IVec S16384 32) (b : Nat) : len bt b ≤ 16384 := Nat.le_trans (Nat.sub_le _ _) (stop_le bt b)

include hs in
theorem sums_ap (x : Fin 16) : sums bt (ix1 x) = BitVec.ofNat 32 (start bt (x.val + 1)) := by
  unfold sums
  rw [← sum_len]
  exact cumsum1 (N := 16) (Nm1 := 15) rfl (counts bt) (len bt) (counts_ap hs) _ (bc0 _ _ _) _ _ x

theorem cons_zero (a : IVec S1 32) (c : IVec S15 32) : concatenate S16 0 [⟨S1, a⟩, ⟨S15, c⟩] concatenates_S1_S15_S16_d0 (ix1 (0 : Fin 16)) = a (ix1 (0 : Fin 1)) := by
  refine concatenate_pair_apply_left (t := S16) (s₁ := S1) (s₂ := S15) (0 : Fin 1) a c concatenates_S1_S15_S16_d0 (ix1 (0 : Fin 16)) rfl (ix1 (0 : Fin 1)) ?_
  intro b
  match b with
  | ⟨0, _⟩ => rfl

theorem cons_succ (a : IVec S1 32) (c : IVec S15 32) (y : Fin 15) (x : Fin 16) (hx : x.val = y.val + 1) :
    concatenate S16 0 [⟨S1, a⟩, ⟨S15, c⟩] concatenates_S1_S15_S16_d0 (ix1 x) = c (ix1 y) := by
  refine concatenate_pair_apply_right (t := S16) (s₁ := S1) (s₂ := S15) (0 : Fin 1) a c concatenates_S1_S15_S16_d0 (ix1 x) rfl rfl (ix1 y) ?_ ?_
  · intro b hb
    match b with
    | ⟨0, _⟩ => exact absurd rfl hb
  · exact hx.symm

include hs in
theorem starts_ap (x : Fin 16) : starts bt (ix1 x) = BitVec.ofNat 32 (start bt x.val) := by
  unfold starts
  rcases Nat.eq_zero_or_pos x.val with h | h
  · obtain rfl : x = 0 := Fin.ext h
    rw [cons_zero, bc0]
    exact congrArg (BitVec.ofNat 32) (Cert.Proof.Pad.start_zero bt).symm
  · have hx := x.isLt
    rw [cons_succ _ _ (⟨x.val - 1, by omega⟩ : Fin 15) x (by show x.val = x.val - 1 + 1; omega)]
    refine (slice1 0 (sums bt) slices_S16_S15_0 (⟨x.val - 1, by omega⟩ : Fin 15) (by show 0 + (x.val - 1) < 16; omega)).trans ?_
    refine (sums_ap hs _).trans ?_
    exact congrArg (fun n => BitVec.ofNat 32 (start bt n)) (by show 0 + (x.val - 1) + 1 = x.val; omega)

include hs in
theorem start_le (i : Fin 16384) : start bt (key bt i.val) ≤ i.val := ((key_iff hs i.isLt _).1 rfl).1

include hs in
theorem places_ap (i : Fin 16384) : places bt (ix1 i) = BitVec.ofNat 32 (i.val - start bt (key bt i.val)) := by
  show iotaInDim (shape1 16384) 32 0 (ix1 i) - Host.gather gather_S16_S16384x1_S16384_n_0_n_n_0_1_1 (starts bt) (column (wrapped 16#32 bt)) (ix1 i) = _
  rw [show Host.gather gather_S16_S16384x1_S16384_n_0_n_n_0_1_1 (starts bt) (column (wrapped 16#32 bt)) (ix1 i) = _ from
    gather_take1 (N := 16) (n := 16384) gather_S16_S16384x1_S16384_n_0_n_n_0_1_1 rfl rfl rfl rfl (starts bt) (column (wrapped 16#32 bt)) i ⟨key bt i.val, hs.lt _⟩
      (graph_ap hs i) (by decide), starts_ap hs, iota1_ap]
  exact ofNat32_sub (start_le hs i)

/-! ## The scatter of the rows -/

theorem pairs_zero (i : Fin 16384) : pairs bt (ix2 i (0 : Fin 2)) = column (wrapped 16#32 bt) (ix2 i (0 : Fin 1)) := by
  unfold pairs
  refine concatenate_pair_apply_left (t := S16384x2) (s₁ := S16384x1) (s₂ := S16384x1) (1 : Fin 2) (column (wrapped 16#32 bt)) (column (wrapped 2048#32 (places bt))) concatenates_S16384x1_S16384x1_S16384x2_d1 _ rfl (ix2 i (0 : Fin 1)) ?_
  intro b
  match b with
  | ⟨0, _⟩ => rfl
  | ⟨1, _⟩ => rfl
theorem pairs_one (i : Fin 16384) : pairs bt (ix2 i (1 : Fin 2)) = column (wrapped 2048#32 (places bt)) (ix2 i (0 : Fin 1)) := by
  unfold pairs
  refine concatenate_pair_apply_right (t := S16384x2) (s₁ := S16384x1) (s₂ := S16384x1) (1 : Fin 2) (column (wrapped 16#32 bt)) (column (wrapped 2048#32 (places bt))) concatenates_S16384x1_S16384x1_S16384x2_d1 _ rfl rfl (ix2 i (0 : Fin 1)) ?_ ?_
  · intro b hb
    match b with
    | ⟨0, _⟩ => rfl
    | ⟨1, _⟩ => exact absurd rfl hb
  · rfl

include hs in
theorem pairs_graph (i : Fin 16384) : (pairs bt (ix2 i (0 : Fin 2))).toInt = (key bt i.val : Int) := by
  rw [pairs_zero, graph_ap hs]; exact WordCmp.toInt_ofNat_of_lt (w := 32) (key_lt hs _)
include hs in
theorem pairs_place (i : Fin 16384) : (pairs bt (ix2 i (1 : Fin 2))).toInt = ((i.val - start bt (key bt i.val) : Nat) : Int) := by
  have hb : i.val - start bt (key bt i.val) < 2 ^ 31 := by have := i.isLt; omega
  rw [pairs_one, column_ap, wrapped_ap _ _ i hb (places_ap hs i)]; exact WordCmp.toInt_ofNat_of_lt (w := 32) hb

/-- An element `(i, l)` of the rows lands at `(b, p, l)` when the words of row `i` are `b` and `p`. -/
theorem row_lands (idx : IVec S16384x2 32) (i : Fin 16384) (l : Fin 1024) (b : Fin 16) (p : Fin 2048) (q : Fin 1024) :
    scatter_S16x2048x1024_S16384x2_S16384x1024_1_01_01_1.resultIdx? (ix2 i l) idx = some (ix3 b p q)
      ↔ (idx (ix2 i (0 : Fin 2))).toInt = (b.val : Int) ∧ (idx (ix2 i (1 : Fin 2))).toInt = (p.val : Int) ∧ l = q := by
  refine (resultIdx?_eq_some _ _ _ _).trans ?_
  have w0 : scatter_S16x2048x1024_S16384x2_S16384x1024_1_01_01_1.window (ix2 i l) 0 = 0 := rfl
  have w1 : scatter_S16x2048x1024_S16384x2_S16384x1024_1_01_01_1.window (ix2 i l) 1 = 0 := rfl
  have w2 : scatter_S16x2048x1024_S16384x2_S16384x1024_1_01_01_1.window (ix2 i l) 2 = l.val := rfl
  have s0 : scatter_S16x2048x1024_S16384x2_S16384x1024_1_01_01_1.start (ix2 i l) idx 0 = (idx (ix2 i (0 : Fin 2))).toInt := by
    refine congrArg (fun q => (idx q).toInt) (funext fun a => Fin.ext ?_)
    match a with
    | ⟨0, _⟩ => rfl
    | ⟨1, _⟩ => rfl
  have s1 : scatter_S16x2048x1024_S16384x2_S16384x1024_1_01_01_1.start (ix2 i l) idx 1 = (idx (ix2 i (1 : Fin 2))).toInt := by
    refine congrArg (fun q => (idx q).toInt) (funext fun a => Fin.ext ?_)
    match a with
    | ⟨0, _⟩ => rfl
    | ⟨1, _⟩ => rfl
  have s2 : scatter_S16x2048x1024_S16384x2_S16384x1024_1_01_01_1.start (ix2 i l) idx 2 = 0 := rfl
  constructor
  · intro h
    have h0 := h 0
    have h1 := h 1
    have h2 := h 2
    rw [w0, s0] at h0
    rw [w1, s1] at h1
    rw [w2, s2] at h2
    change _ = (b.val : Int) at h0
    change _ = (p.val : Int) at h1
    change _ = (q.val : Int) at h2
    exact ⟨by omega, by omega, Fin.ext (by omega)⟩
  · rintro ⟨h0, h1, rfl⟩ a
    match a with
    | ⟨0, _⟩ => show scatter_S16x2048x1024_S16384x2_S16384x1024_1_01_01_1.start (ix2 i l) idx 0 + (scatter_S16x2048x1024_S16384x2_S16384x1024_1_01_01_1.window (ix2 i l) 0 : Int) = (b.val : Int); rw [w0, s0, h0]; simp
    | ⟨1, _⟩ => show scatter_S16x2048x1024_S16384x2_S16384x1024_1_01_01_1.start (ix2 i l) idx 1 + (scatter_S16x2048x1024_S16384x2_S16384x1024_1_01_01_1.window (ix2 i l) 1 : Int) = (p.val : Int); rw [w1, s1, h1]; simp
    | ⟨2, _⟩ => show scatter_S16x2048x1024_S16384x2_S16384x1024_1_01_01_1.start (ix2 i l) idx 2 + (scatter_S16x2048x1024_S16384x2_S16384x1024_1_01_01_1.window (ix2 i l) 2 : Int) = (l.val : Int); rw [w2, s2]; simp

include hs in
/-- Row `i` goes to place `p` of graph `b` exactly when it is row `start b + p` and the graph has more than `p` rows. -/
theorem lands_iff (i : Fin 16384) (l q : Fin 1024) (b : Fin 16) (p : Fin 2048) :
    scatter_S16x2048x1024_S16384x2_S16384x1024_1_01_01_1.resultIdx? (ix2 i l) (pairs bt) = some (ix3 b p q)
      ↔ p.val < len bt b.val ∧ i.val = start bt b.val + p.val ∧ l = q := by
  refine (row_lands _ i l b p q).trans ?_
  rw [pairs_graph hs, pairs_place hs]
  have hl := start_add_len bt b.val
  have hk := key_iff hs i.isLt b.val
  constructor
  · rintro ⟨h0, h1, h2⟩
    have e : key bt i.val = b.val := by omega
    have := hk.1 e
    rw [e] at h1
    exact ⟨by omega, by omega, h2⟩
  · rintro ⟨h0, h1, h2⟩
    have e : key bt i.val = b.val := hk.2 ⟨by omega, by omega⟩
    rw [e]
    exact ⟨rfl, by omega, h2⟩

include hs in
theorem refPad_ap (src : FVec F S16384x1024 .f32) (b : Fin 16) (p : Fin 2048) (q : Fin 1024) :
    refPad src bt (ix3 b p q)
      = if p.val < len bt b.val then src (ix2 ⟨min (start bt b.val + p.val) 16383, by omega⟩ q) else FloatOps.ofBits .f32 0x00000000#32 := by
  unfold refPad
  by_cases h : p.val < len bt b.val
  · have hl := start_add_len bt b.val
    have hst := stop_le bt b.val
    rw [if_pos h]
    refine scatter_set_hit _ _ _ _ _ _ ?_ (ix2 ⟨start bt b.val + p.val, by omega⟩ q) ((lands_iff hs _ _ _ _ _).2 ⟨h, rfl, rfl⟩)
    intro k hk
    obtain ⟨i, l, rfl⟩ : ∃ i l, k = ix2 i l := ⟨k 0, k 1, eq_ix2 k⟩
    obtain ⟨_, h1, rfl⟩ := (lands_iff hs i l q b p).1 hk
    exact congrArg (fun z => src (ix2 z l)) (Fin.ext (by show i.val = min (start bt b.val + p.val) 16383; omega))
  · rw [if_neg h, scatter_set_miss]
    · exact bc0 _ _ _
    · intro k hk
      obtain ⟨i, l, rfl⟩ : ∃ i l, k = ix2 i l := ⟨k 0, k 1, eq_ix2 k⟩
      exact h ((lands_iff hs i l q b p).1 hk).1

include hs in
theorem refMask_ap (b : Fin 16) (p : Fin 2048) : refMask bt (ix2 b p) = BitVec.ofBool (decide (p.val < len bt b.val)) := by
  unfold refMask
  show IntOp.cmpi .slt (broadcastInDim S16x2048 ![0, 1] bcast_S1x2048_S16x2048_0_1 (broadcastInDim S1x2048 ![1] bcast_S2048_S1x2048_1 (iotaInDim S2048 32 0)) (ix2 b p))
    (broadcastInDim S16x2048 ![0, 1] bcast_S16x1_S16x2048_0_1 (broadcastInDim S16x1 ![0] bcast_S16_S16x1_0 (counts bt)) (ix2 b p)) = _
  rw [show broadcastInDim S16x2048 ![0, 1] bcast_S1x2048_S16x2048_0_1 (broadcastInDim S1x2048 ![1] bcast_S2048_S1x2048_1 (iotaInDim S2048 32 0)) (ix2 b p) = BitVec.ofNat 32 p.val from
      (bcCols (n := 16) (m := 2048) _ _ _ b p).trans (iota1_ap p),
    show broadcastInDim S16x2048 ![0, 1] bcast_S16x1_S16x2048_0_1 (broadcastInDim S16x1 ![0] bcast_S16_S16x1_0 (counts bt)) (ix2 b p) = BitVec.ofNat 32 (len bt b.val) from
      (bcRows (n := 16) (m := 2048) _ _ _ b p).trans (counts_ap hs b)]
  have := len_le bt b.val
  have := p.isLt
  exact WordCmp.cmpi_slt_ofNat (w := 32) (by omega) (by omega)

/-! ## The reference's results -/

/-- The padded rows and the mask words as arrays of 16 graphs of 2048 places. -/
theorem pad_cast (src : FVec F S16384x1024 .f32) (z : F .f32) (h : (shape2 32768 1024).ShapeCasts (shape3 16 2048 1024)) (b : Fin 16) (p : Fin 2048) (q : Fin 1024) :
    shapeCast (shape3 16 2048 1024) (padded z src bt) h (ix3 b p q)
      = if p.val < len bt b.val then src (ix2 ⟨min (start bt b.val + p.val) 16383, by omega⟩ q) else z := by
  have hb := b.isLt
  have hp := p.isLt
  refine (shapeCast_apply (s := shape2 32768 1024) (t := shape3 16 2048 1024) (padded z src bt) h (ix3 b p q) (ix2 (⟨b.val * 2048 + p.val, by omega⟩ : Fin 32768) q) (by
    rw [Shape.rowMajor_val_three, Shape.rowMajor_val_two]
    show (b.val * 2048 + p.val) * 1024 + q.val = (b.val * 2048 + p.val) * 1024 + q.val
    rfl)).trans ?_
  have e1 : (b.val * 2048 + p.val) % 2048 = p.val := by omega
  have e2 : (b.val * 2048 + p.val) / 2048 = b.val := by omega
  show (if (b.val * 2048 + p.val) % 2048 < len bt ((b.val * 2048 + p.val) / 2048) then
    src (ix2 ⟨min (start bt ((b.val * 2048 + p.val) / 2048) + (b.val * 2048 + p.val) % 2048) 16383, by omega⟩ q) else z) = _
  simp only [e1, e2]

theorem mask_cast (h : (shape1 32768).ShapeCasts (shape2 16 2048)) (b : Fin 16) (p : Fin 2048) :
    shapeCast (shape2 16 2048) (mask bt) h (ix2 b p) = if p.val < len bt b.val then 1#32 else 0#32 := by
  have hb := b.isLt
  have hp := p.isLt
  refine (cast12 (mask bt) h b p (⟨b.val * 2048 + p.val, by omega⟩ : Fin 32768) rfl).trans ?_
  have e1 : (b.val * 2048 + p.val) % 2048 = p.val := by omega
  have e2 : (b.val * 2048 + p.val) / 2048 = b.val := by omega
  show (if (b.val * 2048 + p.val) % 2048 < len bt ((b.val * 2048 + p.val) / 2048) then 1#32 else 0#32) = _
  rw [e1, e2]

include hs in
theorem refPad_eq (src : FVec F S16384x1024 .f32) (h : (shape2 32768 1024).ShapeCasts (shape3 16 2048 1024)) :
    refPad src bt = shapeCast (shape3 16 2048 1024) (padded (FloatOps.ofBits .f32 0x00000000#32) src bt) h := by
  funext j
  obtain ⟨b, p, q, rfl⟩ : ∃ b p q, j = ix3 b p q := ⟨j 0, j 1, j 2, eq_ix3 j⟩
  rw [refPad_ap hs, pad_cast]

include hs in
theorem refMask_eq (h : (shape1 32768).ShapeCasts (shape2 16 2048)) (hb : shape0.BroadcastsInDim (shape2 16 2048) (![] : Fin 0 → Fin 2)) :
    refMask bt = cmpi .ne (shapeCast (shape2 16 2048) (mask bt) h) (broadcastInDim (shape2 16 2048) ![] hb (constantI shape0 32 0#32)) := by
  funext j
  obtain ⟨b, p, rfl⟩ : ∃ b p, j = ix2 b p := ⟨j 0, j 1, eq_ix2 j⟩
  rw [refMask_ap hs]
  show _ = IntOp.cmpi .ne (shapeCast (shape2 16 2048) (mask bt) h (ix2 b p)) (broadcastInDim (shape2 16 2048) ![] hb (constantI shape0 32 0#32) (ix2 b p))
  rw [mask_cast, bc0]
  by_cases hlt : p.val < len bt b.val
  · rw [if_pos hlt, decide_eq_true hlt]; rfl
  · rw [if_neg hlt, decide_eq_false hlt]; rfl

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_valid
public import Idealize.ShloMosaic.Adequacy
public import Idealize.ShloMosaic.Init
public import Idealize.ShloMosaic.Lib.Quiescent
public import proofs.«01_k».proof.Proof.Main
public import proofs.«01_k».proof.Proof.RefValue

@[expose] public section

set_option maxRecDepth 16384

noncomputable section

namespace Cert.Proof

open Idealize.ShloMosaic Idealize.SL.Sem

/-! ## The frames -/

theorem ok_of_pre (m : (ℓ : Loc Cert.KernelIdeal.nD Cert.KernelIdeal.τ Cert.KernelIdeal.sig) → Buf (Elt Ideal) ℓ) (h : Cert.Pre_KernelIdeal m) : Pad.PreOK m :=
  fun d => Pad.sorted_of_pre (F := Ideal) _ _ (h d)

theorem ok_of_pre_bits (m : (ℓ : Loc Cert.Kernel.nD Cert.Kernel.τ Cert.Kernel.sig) → Buf (Elt Bits) ℓ) (h : Cert.Pre_Kernel m) : Pad.PreOK (F := Bits) m :=
  fun d => Pad.sorted_of_pre (F := Bits) _ _ (h d)

theorem frame_ideal : Cert.quiescent_KernelIdeal := fun m ρ h =>
  (θ_run Cert.KernelIdeal.defs _ _).mono (fun _ r => ⟨fun c => ⟨(r.1 c).2.2.1, (r.1 c).2.2.2⟩, r.2⟩) (Pad.run_main (F := Ideal) m ρ (ok_of_pre m h))

theorem frame_kernel : Cert.quiescent_Kernel := fun m ρ h =>
  (θ_run Cert.KernelIdeal.defs _ _).mono (fun _ r => ⟨fun c => ⟨(r.1 c).2.2.1, (r.1 c).2.2.2⟩, r.2⟩) (Pad.run_main (F := Bits) m ρ (ok_of_pre_bits m h))

/-- The reference has no semaphores. -/
theorem ref_sems (s : MemSt Cert.ReferenceIdeal.nD Cert.ReferenceIdeal.τ Cert.ReferenceIdeal.sig (Elt Ideal)) : s.sem = fun _ => 0 :=
  sem_eq_zero_of_no_sems rfl s

theorem frame_reference : Cert.quiescent_ReferenceIdeal := fun m ρ _ =>
  (θ_run Cert.ReferenceIdeal.defs _ _).mono (fun r h => ⟨fun c => (h c).2.2, ref_sems r.2⟩) (Cert.ReferenceIdeal.Value.run (F := Ideal) m ρ)

theorem frame_reference_valid : Cert.quiescent_ReferenceIdeal_pre_valid := fun m ρ _ =>
  (θ_run Cert.ReferenceIdeal.defs _ _).mono (fun r h => ⟨fun c => (h c).2.2, ref_sems r.2⟩) (Cert.ReferenceIdeal.Value.run (F := Ideal) m ρ)

/-! ## The values -/

/-- The reference's results in the names of Proof/RefValue.lean. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v37)
          = Ref.refPad (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v43)
          = Ref.refMask (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans (by unfold Cert.ReferenceIdeal.Value.res_main_v37; rfl), (h c).2.1.trans rfl, (h c).2.2⟩)
    (Cert.ReferenceIdeal.Value.run (F := Ideal) m ρ)

theorem algebraic : Cert.algebraic_KernelIdeal_ReferenceIdeal := by
  intro m g m' g' h hargs
  have hok := ok_of_pre m h
  refine ⟨fun c => Pad.padOut m c, fun c => Pad.mskOut m c, ?_, ?_⟩
  · exact (θ_run Cert.KernelIdeal.defs _ _).mono (fun _ r c => r.1 c) (Pad.run_main (F := Ideal) m g hok)
  · refine (θ_run Cert.ReferenceIdeal.defs _ _).mono (fun _ r c => ⟨(r c).1.trans ?_, (r c).2.1.trans ?_, (r c).2.2⟩) (run_reference m' g')
    · rw [(hargs c).1, (hargs c).2]
      exact Ref.refPad_eq (hok c) _ _
    · rw [(hargs c).2]
      exact Ref.refMask_eq (hok c) _ _

theorem claim : Cert.Claim := ⟨Cert.Kernel.Gen.facts, Cert.KernelIdeal.Gen.facts, Cert.ReferenceIdeal.Gen.facts, Cert.Pre_valid.Gen.facts,
  frame_kernel, frame_ideal, frame_reference, frame_reference_valid, trivial, algebraic⟩

end Cert.Proof

end
